-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "mask" .f32 0x7149F2CA#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x4096x3 : Shape := ⟨3, ![16, 4096, 3]⟩
abbrev S16x1024x3 : Shape := ⟨3, ![16, 1024, 3]⟩
abbrev S16x256x4096 : Shape := ⟨3, ![16, 256, 4096]⟩
abbrev S16x512x1024 : Shape := ⟨3, ![16, 512, 1024]⟩
abbrev S256x768 : Shape := ⟨2, ![256, 768]⟩
abbrev S256 : Shape := ⟨1, ![256]⟩
abbrev S256x256 : Shape := ⟨2, ![256, 256]⟩
abbrev S_ : Shape := ⟨0, ![]⟩

class Facts : Prop where
  bcast_S_S16x4096x3 : S_.BroadcastsInDim S16x4096x3 (![] : Fin 0 → Fin S16x4096x3.rank)
  bcast_S_S16x1024x3 : S_.BroadcastsInDim S16x1024x3 (![] : Fin 0 → Fin S16x1024x3.rank)
  bcast_S_S16x256x4096 : S_.BroadcastsInDim S16x256x4096 (![] : Fin 0 → Fin S16x256x4096.rank)
  bcast_S_S16x512x1024 : S_.BroadcastsInDim S16x512x1024 (![] : Fin 0 → Fin S16x512x1024.rank)
  bcast_S_S256x768 : S_.BroadcastsInDim S256x768 (![] : Fin 0 → Fin S256x768.rank)
  bcast_S_S256 : S_.BroadcastsInDim S256 (![] : Fin 0 → Fin S256.rank)
  bcast_S_S256x256 : S_.BroadcastsInDim S256x256 (![] : Fin 0 → Fin S256x256.rank)

variable [Facts]

def fn_part1 {F : FTy → Type} [FloatOps F] (main_arg6 : FVec F S256 .f32) (main_arg7 : FVec F S256 .f32) (main_arg8 : FVec F S256x256 .f32) (main_arg9 : FVec F S256 .f32) (main_arg10 : FVec F S256 .f32) (main_v2 : IVec S16x4096x3 1) (main_v5 : IVec S16x1024x3 1) (main_v8 : IVec S16x256x4096 1) (main_v11 : IVec S16x512x1024 1) (main_v14 : IVec S256x768 1) (main_v17 : IVec S256 1) : IVec S16x4096x3 1 × IVec S16x1024x3 1 × IVec S16x256x4096 1 × IVec S16x512x1024 1 × IVec S256x768 1 × IVec S256 1 × IVec S256 1 × IVec S256 1 × IVec S256x256 1 × IVec S256 1 × IVec S256 1 :=
  let main_v18 : FVec F S256 .f32 := Host.absf main_arg6
  let main_cst_5 : FVec F S_ .f32 := constant S_ .f32 0x7F800000#32
  let main_v19 : FVec F S256 .f32 := broadcastInDim S256 ![] bcast_S_S256 main_cst_5
  let main_v20 : IVec S256 1 := cmpf .olt main_v18 main_v19
  let main_v21 : FVec F S256 .f32 := Host.absf main_arg7
  let main_cst_6 : FVec F S_ .f32 := constant S_ .f32 0x7F800000#32
  let main_v22 : FVec F S256 .f32 := broadcastInDim S256 ![] bcast_S_S256 main_cst_6
  let main_v23 : IVec S256 1 := cmpf .olt main_v21 main_v22
  let main_v24 : FVec F S256x256 .f32 := Host.absf main_arg8
  let main_cst_7 : FVec F S_ .f32 := constant S_ .f32 0x7F800000#32
  let main_v25 : FVec F S256x256 .f32 := broadcastInDim S256x256 ![] bcast_S_S256x256 main_cst_7
  let main_v26 : IVec S256x256 1 := cmpf .olt main_v24 main_v25
  let main_v27 : FVec F S256 .f32 := Host.absf main_arg9
  let main_cst_8 : FVec F S_ .f32 := constant S_ .f32 0x7F800000#32
  let main_v28 : FVec F S256 .f32 := broadcastInDim S256 ![] bcast_S_S256 main_cst_8
  let main_v29 : IVec S256 1 := cmpf .olt main_v27 main_v28
  let main_v30 : FVec F S256 .f32 := Host.absf main_arg10
  let main_cst_9 : FVec F S_ .f32 := constant S_ .f32 0x7F800000#32
  let main_v31 : FVec F S256 .f32 := broadcastInDim S256 ![] bcast_S_S256 main_cst_9
  let main_v32 : IVec S256 1 := cmpf .olt main_v30 main_v31
  (main_v2, main_v5, main_v8, main_v11, main_v14, main_v17, main_v20, main_v23, main_v26, main_v29, main_v32)

def fn {F : FTy → Type} [FloatOps F] (main_arg0 : FVec F S16x4096x3 .f32) (main_arg1 : FVec F S16x1024x3 .f32) (main_arg2 : FVec F S16x256x4096 .f32) (main_arg3 : FVec F S16x512x1024 .f32) (main_arg4 : FVec F S256x768 .f32) (main_arg5 : FVec F S256 .f32) (main_arg6 : FVec F S256 .f32) (main_arg7 : FVec F S256 .f32) (main_arg8 : FVec F S256x256 .f32) (main_arg9 : FVec F S256 .f32) (main_arg10 : FVec F S256 .f32) (main_arg11 : FVec F S256 .f32) : IVec S16x4096x3 1 × IVec S16x1024x3 1 × IVec S16x256x4096 1 × IVec S16x512x1024 1 × IVec S256x768 1 × IVec S256 1 × IVec S256 1 × IVec S256 1 × IVec S256x256 1 × IVec S256 1 × IVec S256 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_v3 : FVec F S16x1024x3 .f32 := Host.absf main_arg1
  let main_cst_0 : FVec F S_ .f32 := constant S_ .f32 0x7F800000#32
  let main_v4 : FVec F S16x1024x3 .f32 := broadcastInDim S16x1024x3 ![] bcast_S_S16x1024x3 main_cst_0
  let main_v5 : IVec S16x1024x3 1 := cmpf .olt main_v3 main_v4
  let main_v6 : FVec F S16x256x4096 .f32 := Host.absf main_arg2
  let main_cst_1 : FVec F S_ .f32 := constant S_ .f32 0x7F800000#32
  let main_v7 : FVec F S16x256x4096 .f32 := broadcastInDim S16x256x4096 ![] bcast_S_S16x256x4096 main_cst_1
  let main_v8 : IVec S16x256x4096 1 := cmpf .olt main_v6 main_v7
  let main_v9 : FVec F S16x512x1024 .f32 := Host.absf main_arg3
  let main_cst_2 : FVec F S_ .f32 := constant S_ .f32 0x7F800000#32
  let main_v10 : FVec F S16x512x1024 .f32 := broadcastInDim S16x512x1024 ![] bcast_S_S16x512x1024 main_cst_2
  let main_v11 : IVec S16x512x1024 1 := cmpf .olt main_v9 main_v10
  let main_v12 : FVec F S256x768 .f32 := Host.absf main_arg4
  let main_cst_3 : FVec F S_ .f32 := constant S_ .f32 0x7F800000#32
  let main_v13 : FVec F S256x768 .f32 := broadcastInDim S256x768 ![] bcast_S_S256x768 main_cst_3
  let main_v14 : IVec S256x768 1 := cmpf .olt main_v12 main_v13
  let main_v15 : FVec F S256 .f32 := Host.absf main_arg5
  let main_cst_4 : FVec F S_ .f32 := constant S_ .f32 0x7F800000#32
  let main_v16 : FVec F S256 .f32 := broadcastInDim S256 ![] bcast_S_S256 main_cst_4
  let main_v17 : IVec S256 1 := cmpf .olt main_v15 main_v16
  fn_part1 (F := F) main_arg6 main_arg7 main_arg8 main_arg9 main_arg10 main_v2 main_v5 main_v8 main_v11 main_v14 main_v17
-- ==== Kernel.lean ====
abbrev S16x4096x3 : Shape := ⟨3, ![16, 4096, 3]⟩
abbrev S16x1024x3 : Shape := ⟨3, ![16, 1024, 3]⟩
abbrev S16x256x4096 : Shape := ⟨3, ![16, 256, 4096]⟩
abbrev S16x512x1024 : Shape := ⟨3, ![16, 512, 1024]⟩
abbrev S256x768 : Shape := ⟨2, ![256, 768]⟩
abbrev S256 : Shape := ⟨1, ![256]⟩
abbrev S256x256 : Shape := ⟨2, ![256, 256]⟩
abbrev S256x512 : Shape := ⟨2, ![256, 512]⟩
abbrev S16x3x4096 : Shape := ⟨3, ![16, 3, 4096]⟩
abbrev S16x256x1024 : Shape := ⟨3, ![16, 256, 1024]⟩
abbrev S1x512x1024 : Shape := ⟨3, ![1, 512, 1024]⟩
abbrev S1x256x1024 : Shape := ⟨3, ![1, 256, 1024]⟩
abbrev S512x1024 : Shape := ⟨2, ![512, 1024]⟩
abbrev S256x1024 : Shape := ⟨2, ![256, 1024]⟩
abbrev S256x1 : Shape := ⟨2, ![256, 1]⟩
abbrev S1x3x512 : Shape := ⟨3, ![1, 3, 512]⟩
abbrev S1x1024x3 : Shape := ⟨3, ![1, 1024, 3]⟩
abbrev S1x256x512 : Shape := ⟨3, ![1, 256, 512]⟩
abbrev S3x512 : Shape := ⟨2, ![3, 512]⟩
abbrev S1024x3 : Shape := ⟨2, ![1024, 3]⟩
abbrev S1x512 : Shape := ⟨2, ![1, 512]⟩
abbrev S1024x1 : Shape := ⟨2, ![1024, 1]⟩
abbrev S1024x512 : Shape := ⟨2, ![1024, 512]⟩
abbrev S512 : Shape := ⟨1, ![512]⟩
abbrev S1x256x4096 : Shape := ⟨3, ![1, 256, 4096]⟩
abbrev S256x4096 : Shape := ⟨2, ![256, 4096]⟩
abbrev S1x256x2048 : Shape := ⟨3, ![1, 256, 2048]⟩
abbrev S256x2048 : Shape := ⟨2, ![256, 2048]⟩

abbrev nBuf : Space → Nat
  | .hbm => 27
  | .vmem => 43
  | .smem => 0
  | _ => 0

abbrev bufTy : (tb : Table) → Fin (tcTables nBuf tb) → BufTy
  | .hbm, ⟨0, _⟩ => ⟨S16x4096x3, .f32⟩
  | .hbm, ⟨1, _⟩ => ⟨S16x1024x3, .f32⟩
  | .hbm, ⟨2, _⟩ => ⟨S16x256x4096, .f32⟩
  | .hbm, ⟨3, _⟩ => ⟨S16x512x1024, .f32⟩
  | .hbm, ⟨4, _⟩ => ⟨S256x768, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256x512, .f32⟩
  | .hbm, ⟨13, _⟩ => ⟨S256x256, .f32⟩
  | .hbm, ⟨14, _⟩ => ⟨S16x3x4096, .f32⟩
  | .hbm, ⟨15, _⟩ => ⟨S16x256x1024, .bf16⟩
  | .hbm, ⟨16, _⟩ => ⟨S256x1, .f32⟩
  | .hbm, ⟨17, _⟩ => ⟨S256x1, .f32⟩
  | .hbm, ⟨18, _⟩ => ⟨S256x1, .f32⟩
  | .hbm, ⟨19, _⟩ => ⟨S16x256x4096, .bf16⟩
  | .hbm, ⟨20, _⟩ => ⟨S256x1, .f32⟩
  | .hbm, ⟨21, _⟩ => ⟨S256x1, .f32⟩
  | .hbm, ⟨22, _⟩ => ⟨S256x1, .f32⟩
  | .hbm, ⟨23, _⟩ => ⟨S256x1, .f32⟩
  | .hbm, ⟨24, _⟩ => ⟨S256x1, .f32⟩
  | .hbm, ⟨25, _⟩ => ⟨S256x1, .f32⟩
  | .hbm, ⟨26, _⟩ => ⟨S16x256x4096, .f32⟩
  | .local _ .vmem, ⟨0, _⟩ => ⟨S256x512, .f32⟩
  | .local _ .vmem, ⟨1, _⟩ => ⟨S1x512x1024, .f32⟩
  | .local _ .vmem, ⟨2, _⟩ => ⟨S1x512x1024, .f32⟩
  | .local _ .vmem, ⟨3, _⟩ => ⟨S1x256x1024, .bf16⟩
  | .local _ .vmem, ⟨4, _⟩ => ⟨S1x256x1024, .bf16⟩
  | .local _ .vmem, ⟨5, _⟩ => ⟨S1x3x512, .f32⟩
  | .local _ .vmem, ⟨6, _⟩ => ⟨S1x3x512, .f32⟩
  | .local _ .vmem, ⟨7, _⟩ => ⟨S1x1024x3, .f32⟩
  | .local _ .vmem, ⟨8, _⟩ => ⟨S1x1024x3, .f32⟩
  | .local _ .vmem, ⟨9, _⟩ => ⟨S1x256x1024, .bf16⟩
  | .local _ .vmem, ⟨10, _⟩ => ⟨S1x256x1024, .bf16⟩
  | .local _ .vmem, ⟨11, _⟩ => ⟨S1x256x512, .f32⟩
  | .local _ .vmem, ⟨12, _⟩ => ⟨S1x256x512, .f32⟩
  | .local _ .vmem, ⟨13, _⟩ => ⟨S256x256, .f32⟩
  | .local _ .vmem, ⟨14, _⟩ => ⟨S256x1, .f32⟩
  | .local _ .vmem, ⟨15, _⟩ => ⟨S256x1, .f32⟩
  | .local _ .vmem, ⟨16, _⟩ => ⟨S256x1, .f32⟩
  | .local _ .vmem, ⟨17, _⟩ => ⟨S1x256x512, .bf16⟩
  | .local _ .vmem, ⟨18, _⟩ => ⟨S1x256x512, .bf16⟩
  | .local _ .vmem, ⟨19, _⟩ => ⟨S256x1, .f32⟩
  | .local _ .vmem, ⟨20, _⟩ => ⟨S256x1, .f32⟩
  | .local _ .vmem, ⟨21, _⟩ => ⟨S256x1, .f32⟩
  | .local _ .vmem, ⟨22, _⟩ => ⟨S256x1, .f32⟩
  | .local _ .vmem, ⟨23, _⟩ => ⟨S1x256x4096, .bf16⟩
  | .local _ .vmem, ⟨24, _⟩ => ⟨S1x256x4096, .bf16⟩
  | .local _ .vmem, ⟨25, _⟩ => ⟨S256x1, .f32⟩
  | .local _ .vmem, ⟨26, _⟩ => ⟨S256x1, .f32⟩
  | .local _ .vmem, ⟨27, _⟩ => ⟨S256x256, .f32⟩
  | .local _ .vmem, ⟨28, _⟩ => ⟨S256x1, .f32⟩
  | .local _ .vmem, ⟨29, _⟩ => ⟨S256x1, .f32⟩
  | .local _ .vmem, ⟨30, _⟩ => ⟨S256x1, .f32⟩
  | .local _ .vmem, ⟨31, _⟩ => ⟨S256x1, .f32⟩
  | .local _ .vmem, ⟨32, _⟩ => ⟨S256x1, .f32⟩
  | .local _ .vmem, ⟨33, _⟩ => ⟨S256x256, .f32⟩
  | .local _ .vmem, ⟨34, _⟩ => ⟨S1x256x2048, .bf16⟩
  | .local _ .vmem, ⟨35, _⟩ => ⟨S1x256x2048, .bf16⟩
  | .local _ .vmem, ⟨36, _⟩ => ⟨S256x1, .f32⟩
  | .local _ .vmem, ⟨37, _⟩ => ⟨S256x1, .f32⟩
  | .local _ .vmem, ⟨38, _⟩ => ⟨S256x256, .f32⟩
  | .local _ .vmem, ⟨39, _⟩ => ⟨S256x1, .f32⟩
  | .local _ .vmem, ⟨40, _⟩ => ⟨S256x1, .f32⟩
  | .local _ .vmem, ⟨41, _⟩ => ⟨S1x256x2048, .f32⟩
  | .local _ .vmem, ⟨42, _⟩ => ⟨S1x256x2048, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v8 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev main_v11 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc1_stg9_0 : Ref sig .tc := ⟨.vmem, 19, rfl⟩
abbrev cc1_stg10_0 : Ref sig .tc := ⟨.vmem, 20, rfl⟩
abbrev cc1_scratch0 : Ref sig .tc := ⟨.vmem, 21, rfl⟩
abbrev cc1_scratch1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_scratch0 : Ref sig .tc := ⟨.vmem, 32, rfl⟩
abbrev cc2_scratch1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg6_1 : Ref sig .tc := ⟨.vmem, 42, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc1_sem9_0 : DmaSem sig := 19
abbrev cc1_sem10_0 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem6_1 : DmaSem sig := 38

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 8], ![false, false]⟩

def k1_cond2 (i : grid1.Coords) : BitVec 1 :=
  let arg0 : BitVec 32 := BitVec.ofNat 32 (i 0).val
  let c8_i32 : BitVec 32 := 8#32
  let v135 : BitVec 32 := Scalar.muli arg0 c8_i32
  let arg1 : BitVec 32 := BitVec.ofNat 32 (i 1).val
  let v136 : BitVec 32 := Scalar.addi v135 arg1
  let c127_i32 : BitVec 32 := 127#32
  let v159 : BitVec 1 := Scalar.cmpi .eq v136 c127_i32
  let v160 : BitVec 32 := Scalar.extui v159
  let c0_i32_48 : BitVec 32 := 0#32
  let v161 : BitVec 1 := Scalar.cmpi .ne v160 c0_i32_48
  v161

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x3x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S256x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S256x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x256x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 1 → Memref sig .tc .vmem S256x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S256x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev grid2 : Pipeline.Grid := ⟨1, ![16], ![false]⟩

def k2_cond2 (i : grid2.Coords) : BitVec 1 :=
  let arg0 : BitVec 32 := BitVec.ofNat 32 (i 0).val
  let c15_i32 : BitVec 32 := 15#32
  let v30 : BitVec 1 := Scalar.cmpi .eq arg0 c15_i32
  let v31 : BitVec 32 := Scalar.extui v30
  let c0_i32_17 : BitVec 32 := 0#32
  let v32 : BitVec 1 := Scalar.cmpi .ne v31 c0_i32_17
  v32

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x256x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨2, ![16, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage3_0 : Fin 2 → Memref sig .tc .vmem S1x256x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S256x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S256x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S256x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S256x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 2 → Memref sig .tc .vmem S1x256x2048 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]
-- ==== KernelIdeal.lean ====
variable {F : FTy → Type} [FloatOps F] [Named F]
def κ : String → Option EReal := fun
  | "mask" => some ⊤
  | _ => none
-- ==== ReferenceIdeal.lean ====
abbrev S16x4096x3 : Shape := ⟨3, ![16, 4096, 3]⟩
abbrev S16x1024x3 : Shape := ⟨3, ![16, 1024, 3]⟩
abbrev S16x256x4096 : Shape := ⟨3, ![16, 256, 4096]⟩
abbrev S16x512x1024 : Shape := ⟨3, ![16, 512, 1024]⟩
abbrev S256x768 : Shape := ⟨2, ![256, 768]⟩
abbrev S256 : Shape := ⟨1, ![256]⟩
abbrev S256x256 : Shape := ⟨2, ![256, 256]⟩
abbrev S_ : Shape := ⟨0, ![]⟩
abbrev S16x4096 : Shape := ⟨2, ![16, 4096]⟩
abbrev S16x1024 : Shape := ⟨2, ![16, 1024]⟩
abbrev S16x4096x1 : Shape := ⟨3, ![16, 4096, 1]⟩
abbrev S16x1x1024 : Shape := ⟨3, ![16, 1, 1024]⟩
abbrev S16x4096x1024 : Shape := ⟨3, ![16, 4096, 1024]⟩
abbrev S16x4096x3x1 : Shape := ⟨4, ![16, 4096, 3, 1]⟩
abbrev S16x512x4096x3 : Shape := ⟨4, ![16, 512, 4096, 3]⟩
abbrev S16x1x4096x3 : Shape := ⟨4, ![16, 1, 4096, 3]⟩
abbrev S16x512x4096 : Shape := ⟨3, ![16, 512, 4096]⟩
abbrev S16x768x4096 : Shape := ⟨3, ![16, 768, 4096]⟩
abbrev S16x4096x256 : Shape := ⟨3, ![16, 4096, 256]⟩
abbrev S1x256x1 : Shape := ⟨3, ![1, 256, 1]⟩

abbrev nBuf : Space → Nat
  | .hbm => 162
  | .vmem => 0
  | .smem => 0
  | _ => 0

abbrev hbmTy0_0 (i : Nat) : BufTy := match i % 128 with
  | 0 => ⟨S16x4096x3, .f32⟩
  | 1 => ⟨S16x1024x3, .f32⟩
  | 2 => ⟨S16x256x4096, .f32⟩
  | 3 => ⟨S16x512x1024, .f32⟩
  | 4 => ⟨S256x768, .f32⟩
  | 5 => ⟨S256, .f32⟩
  | 6 => ⟨S256, .f32⟩
  | 7 => ⟨S256, .f32⟩
  | 8 => ⟨S256x256, .f32⟩
  | 9 => ⟨S256, .f32⟩
  | 10 => ⟨S256, .f32⟩
  | 11 => ⟨S256, .f32⟩
  | 12 => ⟨S16x4096x3, .f32⟩
  | 13 => ⟨S_, .f32⟩
  | 14 => ⟨S16x4096, .f32⟩
  | 15 => ⟨S16x1024x3, .f32⟩
  | 16 => ⟨S_, .f32⟩
  | 17 => ⟨S16x1024, .f32⟩
  | 18 => ⟨S16x4096x1, .f32⟩
  | 19 => ⟨S16x1x1024, .f32⟩
  | 20 => ⟨S16x4096x1024, .f32⟩
  | 21 => ⟨S16x4096x1024, .f32⟩
  | 22 => ⟨S16x4096x1024, .f32⟩
  | 23 => ⟨S16x4096x1024, .f32⟩
  | 24 => ⟨S_, .f32⟩
  | 25 => ⟨S16x4096x1024, .f32⟩
  | 26 => ⟨S16x4096x1024, .f32⟩
  | 27 => ⟨S16x4096x1024, .f32⟩
  | 28 => ⟨S16x4096x1024, .f32⟩
  | 29 => ⟨S16x4096x3, .f32⟩
  | 30 => ⟨S16x4096x3, .i32⟩
  | 31 => ⟨S16x4096x3, .f32⟩
  | 32 => ⟨S_, .f32⟩
  | 33 => ⟨S16x4096x3, .f32⟩
  | 34 => ⟨S16x4096x3, .f32⟩
  | 35 => ⟨S_, .f32⟩
  | 36 => ⟨S16x4096x3, .f32⟩
  | 37 => ⟨S16x4096x3, .f32⟩
  | 38 => ⟨S_, .f32⟩
  | 39 => ⟨S16x4096, .f32⟩
  | 40 => ⟨S16x4096x1, .f32⟩
  | 41 => ⟨S16x4096x3, .f32⟩
  | 42 => ⟨S16x4096x3, .f32⟩
  | 43 => ⟨S_, .i32⟩
  | 44 => ⟨S16x4096x3, .i32⟩
  | 45 => ⟨S16x4096x3, .i1⟩
  | 46 => ⟨S_, .i32⟩
  | 47 => ⟨S16x4096x3, .i32⟩
  | 48 => ⟨S16x4096x3, .i32⟩
  | 49 => ⟨S16x4096x3, .i32⟩
  | 50 => ⟨S16x4096x3x1, .i32⟩
  | 51 => ⟨S16x512x4096x3, .f32⟩
  | 52 => ⟨S16x1x4096x3, .f32⟩
  | 53 => ⟨S16x512x4096x3, .f32⟩
  | 54 => ⟨S16x512x4096x3, .f32⟩
  | 55 => ⟨S_, .f32⟩
  | 56 => ⟨S16x512x4096, .f32⟩
  | 57 => ⟨S16x768x4096, .f32⟩
  | 58 => ⟨S16x4096x256, .f32⟩
  | 59 => ⟨S16x256x4096, .f32⟩
  | 60 => ⟨S1x256x1, .f32⟩
  | 61 => ⟨S16x256x4096, .f32⟩
  | 62 => ⟨S16x256x4096, .f32⟩
  | 63 => ⟨S_, .f32⟩
  | 64 => ⟨S256, .f32⟩
  | 65 => ⟨S1x256x1, .f32⟩
  | 66 => ⟨S_, .f32⟩
  | 67 => ⟨S1x256x1, .f32⟩
  | 68 => ⟨S1x256x1, .f32⟩
  | 69 => ⟨S_, .i32⟩
  | 70 => ⟨S_, .f32⟩
  | 71 => ⟨S256, .f32⟩
  | 72 => ⟨S1x256x1, .f32⟩
  | 73 => ⟨S_, .f32⟩
  | 74 => ⟨S1x256x1, .f32⟩
  | 75 => ⟨S1x256x1, .f32⟩
  | 76 => ⟨S16x256x4096, .f32⟩
  | 77 => ⟨S16x256x4096, .f32⟩
  | 78 => ⟨S16x256x4096, .f32⟩
  | 79 => ⟨S_, .f32⟩
  | 80 => ⟨S_, .f32⟩
  | 81 => ⟨S_, .f32⟩
  | 82 => ⟨S_, .f32⟩
  | 83 => ⟨S256, .f32⟩
  | 84 => ⟨S1x256x1, .f32⟩
  | 85 => ⟨S1x256x1, .f32⟩
  | 86 => ⟨S1x256x1, .f32⟩
  | 87 => ⟨S_, .f32⟩
  | 88 => ⟨S_, .i1⟩
  | 89 => ⟨S_, .f32⟩
  | 90 => ⟨S_, .f32⟩
  | 91 => ⟨S1x256x1, .f32⟩
  | 92 => ⟨S1x256x1, .f32⟩
  | 93 => ⟨S16x256x4096, .f32⟩
  | 94 => ⟨S16x256x4096, .f32⟩
  | 95 => ⟨S_, .f32⟩
  | 96 => ⟨S1x256x1, .f32⟩
  | 97 => ⟨S1x256x1, .f32⟩
  | 98 => ⟨S1x256x1, .f32⟩
  | 99 => ⟨S16x256x4096, .f32⟩
  | 100 => ⟨S16x256x4096, .f32⟩
  | 101 => ⟨S1x256x1, .f32⟩
  | 102 => ⟨S16x256x4096, .f32⟩
  | 103 => ⟨S16x256x4096, .f32⟩
  | 104 => ⟨S1x256x1, .f32⟩
  | 105 => ⟨S16x256x4096, .f32⟩
  | 106 => ⟨S16x256x4096, .f32⟩
  | 107 => ⟨S_, .f32⟩
  | 108 => ⟨S16x256x4096, .f32⟩
  | 109 => ⟨S16x256x4096, .f32⟩
  | 110 => ⟨S16x4096x256, .f32⟩
  | 111 => ⟨S16x256x4096, .f32⟩
  | 112 => ⟨S1x256x1, .f32⟩
  | 113 => ⟨S16x256x4096, .f32⟩
  | 114 => ⟨S16x256x4096, .f32⟩
  | 115 => ⟨S_, .f32⟩
  | 116 => ⟨S256, .f32⟩
  | 117 => ⟨S1x256x1, .f32⟩
  | 118 => ⟨S_, .f32⟩
  | 119 => ⟨S1x256x1, .f32⟩
  | 120 => ⟨S1x256x1, .f32⟩
  | 121 => ⟨S_, .i32⟩
  | 122 => ⟨S_, .f32⟩
  | 123 => ⟨S256, .f32⟩
  | 124 => ⟨S1x256x1, .f32⟩
  | 125 => ⟨S_, .f32⟩
  | 126 => ⟨S1x256x1, .f32⟩
  | 127 => ⟨S1x256x1, .f32⟩
  | _ => ⟨S16x4096x3, .f32⟩

abbrev hbmTy0_1 (i : Nat) : BufTy := match i % 128 with
  | 0 => ⟨S16x256x4096, .f32⟩
  | 1 => ⟨S16x256x4096, .f32⟩
  | 2 => ⟨S16x256x4096, .f32⟩
  | 3 => ⟨S_, .f32⟩
  | 4 => ⟨S_, .f32⟩
  | 5 => ⟨S_, .f32⟩
  | 6 => ⟨S_, .f32⟩
  | 7 => ⟨S256, .f32⟩
  | 8 => ⟨S1x256x1, .f32⟩
  | 9 => ⟨S1x256x1, .f32⟩
  | 10 => ⟨S1x256x1, .f32⟩
  | 11 => ⟨S_, .f32⟩
  | 12 => ⟨S_, .i1⟩
  | 13 => ⟨S_, .f32⟩
  | 14 => ⟨S_, .f32⟩
  | 15 => ⟨S1x256x1, .f32⟩
  | 16 => ⟨S1x256x1, .f32⟩
  | 17 => ⟨S16x256x4096, .f32⟩
  | 18 => ⟨S16x256x4096, .f32⟩
  | 19 => ⟨S_, .f32⟩
  | 20 => ⟨S1x256x1, .f32⟩
  | 21 => ⟨S1x256x1, .f32⟩
  | 22 => ⟨S1x256x1, .f32⟩
  | 23 => ⟨S16x256x4096, .f32⟩
  | 24 => ⟨S16x256x4096, .f32⟩
  | 25 => ⟨S1x256x1, .f32⟩
  | 26 => ⟨S16x256x4096, .f32⟩
  | 27 => ⟨S16x256x4096, .f32⟩
  | 28 => ⟨S1x256x1, .f32⟩
  | 29 => ⟨S16x256x4096, .f32⟩
  | 30 => ⟨S16x256x4096, .f32⟩
  | 31 => ⟨S_, .f32⟩
  | 32 => ⟨S16x256x4096, .f32⟩
  | 33 => ⟨S16x256x4096, .f32⟩
  | _ => ⟨S16x4096x3, .f32⟩

abbrev hbmTy (i : Nat) : BufTy := match i / 128 with
  | 0 => hbmTy0_0 i
  | 1 => hbmTy0_1 i
  | _ => ⟨S16x4096x3, .f32⟩

abbrev bufTy : (tb : Table) → Fin (tcTables nBuf tb) → BufTy
  | .hbm, ⟨i, _⟩ => hbmTy i
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_values : Ref sig .tc := ⟨.hbm, 29, rfl⟩
abbrev main_indices : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_c_9 : Ref sig .tc := ⟨.hbm, 69, rfl⟩
abbrev main_call0_cst : Ref sig .tc := ⟨.hbm, 70, rfl⟩
abbrev main_call0_v0 : Ref sig .tc := ⟨.hbm, 71, rfl⟩
abbrev main_call0_v1 : Ref sig .tc := ⟨.hbm, 72, rfl⟩
abbrev main_call0_cst_0 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_v5 : Ref sig .tc := ⟨.hbm, 77, rfl⟩
abbrev main_call0_v6 : Ref sig .tc := ⟨.hbm, 78, rfl⟩
abbrev main_call0_v7 : Ref sig .tc := ⟨.hbm, 79, rfl⟩
abbrev main_call0_cst_1 : Ref sig .tc := ⟨.hbm, 80, rfl⟩
abbrev main_call0_v8 : Ref sig .tc := ⟨.hbm, 81, rfl⟩
abbrev main_call0_cst_2 : Ref sig .tc := ⟨.hbm, 82, rfl⟩
abbrev main_call0_v9 : Ref sig .tc := ⟨.hbm, 83, rfl⟩
abbrev main_call0_v10 : Ref sig .tc := ⟨.hbm, 84, rfl⟩
abbrev main_call0_v11 : Ref sig .tc := ⟨.hbm, 85, rfl⟩
abbrev main_call0_v12 : Ref sig .tc := ⟨.hbm, 86, rfl⟩
abbrev main_call0_cst_3 : Ref sig .tc := ⟨.hbm, 87, rfl⟩
abbrev main_call0_v13 : Ref sig .tc := ⟨.hbm, 88, rfl⟩
abbrev main_call0_cst_4 : Ref sig .tc := ⟨.hbm, 89, rfl⟩
abbrev main_call0_call0_v0 : Ref sig .tc := ⟨.hbm, 90, rfl⟩
abbrev main_call0_call0_v1 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_cst_10 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_call1_cst : Ref sig .tc := ⟨.hbm, 107, rfl⟩
abbrev main_call1_v0 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_cst_11 : Ref sig .tc := ⟨.hbm, 115, rfl⟩
abbrev main_v64 : Ref sig .tc := ⟨.hbm, 116, rfl⟩
abbrev main_v65 : Ref sig .tc := ⟨.hbm, 117, rfl⟩
abbrev main_cst_12 : Ref sig .tc := ⟨.hbm, 118, rfl⟩
abbrev main_v66 : Ref sig .tc := ⟨.hbm, 119, rfl⟩
abbrev main_v67 : Ref sig .tc := ⟨.hbm, 120, rfl⟩
abbrev main_c_13 : Ref sig .tc := ⟨.hbm, 121, rfl⟩
abbrev main_call2_cst : Ref sig .tc := ⟨.hbm, 122, rfl⟩
abbrev main_call2_v0 : Ref sig .tc := ⟨.hbm, 123, rfl⟩
abbrev main_call2_v1 : Ref sig .tc := ⟨.hbm, 124, rfl⟩
abbrev main_call2_cst_0 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_call2_v5 : Ref sig .tc := ⟨.hbm, 129, rfl⟩
abbrev main_call2_v6 : Ref sig .tc := ⟨.hbm, 130, rfl⟩
abbrev main_call2_v7 : Ref sig .tc := ⟨.hbm, 131, rfl⟩
abbrev main_call2_cst_1 : Ref sig .tc := ⟨.hbm, 132, rfl⟩
abbrev main_call2_v8 : Ref sig .tc := ⟨.hbm, 133, rfl⟩
abbrev main_call2_cst_2 : Ref sig .tc := ⟨.hbm, 134, rfl⟩
abbrev main_call2_v9 : Ref sig .tc := ⟨.hbm, 135, rfl⟩
abbrev main_call2_v10 : Ref sig .tc := ⟨.hbm, 136, rfl⟩
abbrev main_call2_v11 : Ref sig .tc := ⟨.hbm, 137, rfl⟩
abbrev main_call2_v12 : Ref sig .tc := ⟨.hbm, 138, rfl⟩
abbrev main_call2_cst_3 : Ref sig .tc := ⟨.hbm, 139, rfl⟩
abbrev main_call2_v13 : Ref sig .tc := ⟨.hbm, 140, rfl⟩
abbrev main_call2_cst_4 : Ref sig .tc := ⟨.hbm, 141, rfl⟩
abbrev main_call2_call0_v0 : Ref sig .tc := ⟨.hbm, 142, rfl⟩
abbrev main_call2_call0_v1 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_cst_14 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_call3_cst : Ref sig .tc := ⟨.hbm, 159, rfl⟩
abbrev main_call3_v0 : Ref sig .tc := ⟨.hbm, 160, rfl⟩
abbrev main_v82 : Ref sig .tc := ⟨.hbm, 161, rfl⟩

abbrev nD : Nat := 1
abbrev τ : Topo := Topo.v7x

variable {F : FTy → Type} [FloatOps F]
-- ==== Proof.KernelIdeal.Body.lean ====
/- The bodies of the first and the last call, as statements about the staging buffers they are handed: each load and each store covers its buffer whole, so a body is described by the words it stores. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.ValueKit
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UR sig nD τ) ℕ

/-- Reading back a buffer whose last store covered it whole: the stored words, whatever was stored before. -/
theorem read_top {Val : EltTy → Type} [∀ e, Nonempty (Val e)] {κ : Kind} {sp : Space} {S : Shape} {e : EltTy} (v : View sig κ sp S e)
    {off : Fin S.rank → Nat} (h : ∀ a, off a = 0) (inb : ∀ a, off a + S.size a ≤ S.size a) (f : v.ty.Contents Val)
    (w : S.Idx → Val e) (L : List (View.Piece Val S e)) :
    v.read Val (v.writes Val f ((⟨Rect.unit off S.size inb, w⟩ : View.Piece Val S e) :: L)) = w :=
  (View.read_writes_eq_canon _ _ _ (fun y => ⟨_, List.mem_cons_self, View.mem_set_unit_zero (funext h) inb y⟩)).trans
    (View.canon_cons_unit_zero (funext h) inb w L)

/-- A load covering a whole buffer reads what the buffer is known to hold. -/
theorem read_at {Val : EltTy → Type} {κ : Kind} {sp : Space} {S : Shape} {e : EltTy} (a : Memref sig κ sp S e) (ha : a.IsWhole)
    {off : Fin S.rank → Nat} (inb : ∀ a, off a + S.size a ≤ S.size a) (x : S.Idx → Val e) (h : ∀ a, off a = 0) :
    View.readAt Val a.view (Rect.unit off (no_index S.size) inb).toLoadRect (ha.unread x) = x :=
  (congrArg (fun f => View.ld f (Rect.unit off S.size inb)) (ha.read_unread x)).trans (View.ld_unit_zero (funext h) inb x)

/-- A load covering a whole buffer after a store that covered it reads the stored words. -/
theorem readCov_at {Val : EltTy → Type} [∀ e, Nonempty (Val e)] {κ : Kind} {sp : Space} {S : Shape} {e : EltTy} (v : View sig κ sp S e)
    {off : Fin S.rank → Nat} (inb : ∀ a, off a + S.size a ≤ S.size a) (w : S.Idx → Val e) (h : ∀ a, off a = 0) :
    v.readCov [(⟨Rect.unit off (no_index S.size) inb, w⟩ : View.Piece Val S e)] (Rect.unit off (no_index S.size) inb).toLoadRect = w :=
  View.readCov_unit_zero v (funext h) inb w

set_option maxHeartbeats 2000000 in
/-- The first call's body: the third buffer ends at the product of the weight block and the feature block. -/
theorem body0 (c : Dev nD) (E : Set ℕ) (i : grid0.Coords) (arg1 : Memref sig .tc .vmem S256x512 .f32) (harg1 : arg1.IsWhole) (arg2 : Memref sig .tc .vmem S1x512x1024 .f32) (harg2 : arg2.IsWhole) (arg3 : Memref sig .tc .vmem S1x256x1024 .bf16) (harg3 : arg3.IsWhole)
    (x0 : Vec F S256x512 .f32) (x1 : Vec F S1x512x1024 .f32) (K : PUnit → sProp 𝕄) :
    iprop(owns (c : Thread nD τ) arg1 fullShare x0
        ∗ owns (c : Thread nD τ) arg2 fullShare x1
        ∗ (∃ d, owns (c : Thread nD τ) arg3 fullShare d)
        ∗ (iprop(owns (c : Thread nD τ) arg1 fullShare x0
        ∗ owns (c : Thread nD τ) arg2 fullShare x1
        ∗ owns (c : Thread nD τ) arg3 fullShare (k0_pay1 x0 x1)) -∗ K ⟨⟩))
      ⊢ wp frame (wpE (defs₀ (F := F)) Variants.none c none) E (cc0__kf1_kernel i arg1 harg1 arg2 harg2 arg3 harg3) K := by
  simp only [cc0__kf1_kernel_eq_skeleton]; unfold cc0__kf1_kernel_skel
  unfold owns
  iintro ⟨⟨%f0, %hf0, H0⟩, ⟨%f1, %hf1, H1⟩, ⟨%d2, %f2, -, H2⟩, Hk⟩
  obtain rfl := harg1.eq_unread hf0
  obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  · iexists _; isplitr
    swap; · iexact H2
    ipureintro; refine (read_top _ (by decide) _ _ _ _).trans ?_
    try sl_unfold_words
    simp (disch := decide) only [read_at, readCov_at]

set_option maxHeartbeats 2000000 in
/-- The last call's body: the seventh buffer ends at the second layer of the block. -/
theorem body3 (c : Dev nD) (E : Set ℕ) (i : grid3.Coords) (arg2 : Memref sig .tc .vmem S1x256x2048 .bf16) (harg2 : arg2.IsWhole) (arg3 : Memref sig .tc .vmem S256x1 .f32) (harg3 : arg3.IsWhole) (arg4 : Memref sig .tc .vmem S256x1 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S1x256x2048 .f32) (harg8 : arg8.IsWhole)
    (x0 : Vec F S1x256x2048 .bf16) (x1 : Vec F S256x1 .f32) (x2 : Vec F S256x1 .f32) (x3 : Vec F S256x256 .f32) (x4 : Vec F S256x1 .f32) (x5 : Vec F S256x1 .f32) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ (∃ d, owns (c : Thread nD τ) arg8 fullShare d)
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare (k3_pay1 x0 x1 x2 x3 x4 x5)) -∗ K ⟨⟩))
      ⊢ wp frame (wpE (defs₀ (F := F)) Variants.none c none) E (cc3__phase_c_kernel i arg2 harg2 arg3 harg3 arg4 harg4 arg5 harg5 arg6 harg6 arg7 harg7 arg8 harg8) K := by
  simp only [cc3__phase_c_kernel_eq_skeleton]; unfold cc3__phase_c_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  · iexists _; isplitr
    swap; · iexact H6
    ipureintro; refine (read_top _ (by decide) _ _ _ _).trans ?_
    try sl_unfold_words
    simp (disch := decide) only [read_at, readCov_at]

end Cert.KernelIdeal.Hand

end
-- ==== Proof.KernelIdeal.Region0.lean ====
/- The first call over its grid. -/
module

public import proofs.«01_k».proof.Proof.KernelIdeal.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UR sig nD τ) ℕ

variable (V : (c : Dev nD) → (b : Ref sig .tc) → Buf (Elt F) ((c : Thread nD τ).loc b))

/-- A window's block at a point of the call's grid, cut out of its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the pipeline of the call does with its buffers: the arrays as found, each input's buffer at its block, each
    output's at what the body computes from the blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- What the body is handed at a point, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def post0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at a point, from its blocks. -/
theorem at0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (st0_0 t) fullShare ((dat0 V c).after 0 t) from by
    unfold Dat.leavesExact; rw [show cfg0.idle 0 (grid0.coords t) = false from rfl], after0_0]
  rw [show (dat0 V c).leavesExact 1 t = owns (c : Thread nD τ) (st0_1 t) fullShare ((dat0 V c).after 1 t) from by
    unfold Dat.leavesExact; rw [show cfg0.idle 1 (grid0.coords t) = false from rfl], after0_1]
  rw [show (dat0 V c).leavesExact 2 t = owns (c : Thread nD τ) (st0_2 t) fullShare ((dat0 V c).after 2 t) from by
    unfold Dat.leavesExact; rw [show cfg0.idle 2 (grid0.coords t) = false from rfl], after0_2]
  iintro ⟨HΦ, Ho, ⟨%d0, H0⟩, ⟨%d1, H1⟩, ⟨%d2, H2⟩⟩
  iapply (body0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The call's body meets the pipeline's demand at every point. -/
theorem obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (at0 V c t) rfl .rfl fun _ => .rfl

end Cert.KernelIdeal.Hand

end
-- ==== Proof.KernelIdeal.Body1.lean ====
/- The body of the second call at its first point, at a point between, and at its last. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.ValueKit
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdeal.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UR sig nD τ) ℕ

/-- The block of the first layer before normalization that one point of the second call computes, from its six input blocks. -/
def y1 (x0 : Vec F S1x3x512 .f32) (x1 : Vec F S1x1024x3 .f32) (x2 : Vec F S1x256x1024 .bf16) (x3 : Vec F S1x256x512 .f32)
    (x4 : Vec F S256x256 .f32) (x5 : Vec F S256x1 .f32) : FVec F S256x512 .f32 :=
  k1_pay26 (iota .tc S1024x512 32 [0] iota_S1024x512_d0_w32) (k1_pay16 (k1_pay11 x0 x1) (k1_pay12 x0 x1) (k1_pay13 (F := F))) (k1_pay17 (k1_pay11 x0 x1) (k1_pay12 x0 x1) (k1_pay13 (F := F))) (k1_pay20 (k1_pay11 x0 x1) (k1_pay12 x0 x1) (k1_pay13 (F := F))) (k1_pay21 (k1_pay11 x0 x1) (k1_pay12 x0 x1) (k1_pay13 (F := F))) (k1_pay23 (k1_pay11 x0 x1) (k1_pay12 x0 x1) (k1_pay13 (F := F))) (k1_pay24 (k1_pay11 x0 x1) (k1_pay12 x0 x1) (k1_pay13 (F := F))) (k1_pay25 (F := F)) x2 x3 x4 x5

/-- Whether a point is the first of the second call's grid, as its body asks. -/
abbrev first1 (i : grid1.Coords) : Prop :=
  Scalar.cmpi .ne (Scalar.extui (Scalar.cmpi .eq (Scalar.addi (Scalar.muli (BitVec.ofNat 32 (i 0).val) 8#32) (BitVec.ofNat 32 (i 1).val)) 0#32)) 0#32 = 1#1
/-- Whether it is the last. -/
abbrev last1 (i : grid1.Coords) : Prop := k1_cond2 i = 1#1

set_option maxHeartbeats 2000000 in
/-- At the first point: the two running sums start from zero. -/
theorem body1_first (c : Dev nD) (E : Set ℕ) (i : grid1.Coords) (arg2 : Memref sig .tc .vmem S1x3x512 .f32) (harg2 : arg2.IsWhole) (arg3 : Memref sig .tc .vmem S1x1024x3 .f32) (harg3 : arg3.IsWhole) (arg4 : Memref sig .tc .vmem S1x256x1024 .bf16) (harg4 : arg4.IsWhole) (arg5 : Memref sig .tc .vmem S1x256x512 .f32) (harg5 : arg5.IsWhole) (arg6 : Memref sig .tc .vmem S256x256 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S1x256x512 .bf16) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole)
    (hc0 : first1 i) (hc1 : ¬last1 i) (x0 : Vec F S1x3x512 .f32) (x1 : Vec F S1x1024x3 .f32) (x2 : Vec F S1x256x1024 .bf16) (x3 : Vec F S1x256x512 .f32) (x4 : Vec F S256x256 .f32) (x5 : Vec F S256x1 .f32) (x6 : Vec F S256x1 .f32) (x7 : Vec F S256x1 .f32) (d9 : Vec F S256x1 .f32) (d10 : Vec F S256x1 .f32) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ (∃ d, owns (c : Thread nD τ) arg10 fullShare d)
        ∗ owns (c : Thread nD τ) arg11 fullShare d9
        ∗ owns (c : Thread nD τ) arg12 fullShare d10
        ∗ (∃ d, owns (c : Thread nD τ) arg13 fullShare d)
        ∗ (∃ d, owns (c : Thread nD τ) arg14 fullShare d)
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare (k1_pay5 (y1 x0 x1 x2 x3 x4 x5))
        ∗ owns (c : Thread nD τ) arg11 fullShare d9
        ∗ owns (c : Thread nD τ) arg12 fullShare d10
        ∗ owns (c : Thread nD τ) arg13 fullShare (k1_pay3 (y1 x0 x1 x2 x3 x4 x5) (k1_pay1 (F := F)))
        ∗ owns (c : Thread nD τ) arg14 fullShare (k1_pay4 (y1 x0 x1 x2 x3 x4 x5) (k1_pay2 (F := F)))) -∗ K ⟨⟩))
      ⊢ wp frame (wpE (defs₀ (F := F)) Variants.none c none) E (cc1__phase_a_kernel i arg2 harg2 arg3 harg3 arg4 harg4 arg5 harg5 arg6 harg6 arg7 harg7 arg8 harg8 arg9 harg9 arg10 harg10 arg11 harg11 arg12 harg12 arg13 harg13 arg14 harg14) K := by
  simp only [cc1__phase_a_kernel_eq_skeleton]; unfold cc1__phase_a_kernel_skel
  simp only [k1_part1_eq_skeleton]
  simp only [k1_part2_eq_skeleton]
  simp only [k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, H9, H10, ⟨%d11, %f11, -, H11⟩, ⟨%d12, %f12, -, H12⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro; refine (read_top _ (by decide) _ _ _ _).trans ?_
    try sl_unfold_words
    simp (disch := decide) only [y1, read_at, readCov_at]
  isplitl [H9]
  · iexact H9
  isplitl [H10]
  · iexact H10
  isplitl [H11]
  · iexists _; isplitr
    swap; · iexact H11
    ipureintro; refine (read_top _ (by decide) _ _ _ _).trans ?_
    try sl_unfold_words
    simp (disch := decide) only [y1, read_at, readCov_at]
  · iexists _; isplitr
    swap; · iexact H12
    ipureintro; refine (read_top _ (by decide) _ _ _ _).trans ?_
    try sl_unfold_words
    simp (disch := decide) only [y1, read_at, readCov_at]

set_option maxHeartbeats 2000000 in
/-- At a point that is neither the first nor the last: the running sums take in the point's block. -/
theorem body1_mid (c : Dev nD) (E : Set ℕ) (i : grid1.Coords) (arg2 : Memref sig .tc .vmem S1x3x512 .f32) (harg2 : arg2.IsWhole) (arg3 : Memref sig .tc .vmem S1x1024x3 .f32) (harg3 : arg3.IsWhole) (arg4 : Memref sig .tc .vmem S1x256x1024 .bf16) (harg4 : arg4.IsWhole) (arg5 : Memref sig .tc .vmem S1x256x512 .f32) (harg5 : arg5.IsWhole) (arg6 : Memref sig .tc .vmem S256x256 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S1x256x512 .bf16) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole)
    (hc0 : ¬first1 i) (hc1 : ¬last1 i) (x0 : Vec F S1x3x512 .f32) (x1 : Vec F S1x1024x3 .f32) (x2 : Vec F S1x256x1024 .bf16) (x3 : Vec F S1x256x512 .f32) (x4 : Vec F S256x256 .f32) (x5 : Vec F S256x1 .f32) (x6 : Vec F S256x1 .f32) (x7 : Vec F S256x1 .f32) (d9 : Vec F S256x1 .f32) (d10 : Vec F S256x1 .f32) (s0 : Vec F S256x1 .f32) (s1 : Vec F S256x1 .f32) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ (∃ d, owns (c : Thread nD τ) arg10 fullShare d)
        ∗ owns (c : Thread nD τ) arg11 fullShare d9
        ∗ owns (c : Thread nD τ) arg12 fullShare d10
        ∗ owns (c : Thread nD τ) arg13 fullShare s0
        ∗ owns (c : Thread nD τ) arg14 fullShare s1
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare (k1_pay5 (y1 x0 x1 x2 x3 x4 x5))
        ∗ owns (c : Thread nD τ) arg11 fullShare d9
        ∗ owns (c : Thread nD τ) arg12 fullShare d10
        ∗ owns (c : Thread nD τ) arg13 fullShare (k1_pay3 (y1 x0 x1 x2 x3 x4 x5) s0)
        ∗ owns (c : Thread nD τ) arg14 fullShare (k1_pay4 (y1 x0 x1 x2 x3 x4 x5) s1)) -∗ K ⟨⟩))
      ⊢ wp frame (wpE (defs₀ (F := F)) Variants.none c none) E (cc1__phase_a_kernel i arg2 harg2 arg3 harg3 arg4 harg4 arg5 harg5 arg6 harg6 arg7 harg7 arg8 harg8 arg9 harg9 arg10 harg10 arg11 harg11 arg12 harg12 arg13 harg13 arg14 harg14) K := by
  simp only [cc1__phase_a_kernel_eq_skeleton]; unfold cc1__phase_a_kernel_skel
  simp only [k1_part1_eq_skeleton]
  simp only [k1_part2_eq_skeleton]
  simp only [k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, H9, H10, ⟨%f11, %hf11, H11⟩, ⟨%f12, %hf12, H12⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg13.eq_unread hf11
  obtain rfl := harg14.eq_unread hf12
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro; refine (read_top _ (by decide) _ _ _ _).trans ?_
    try sl_unfold_words
    simp (disch := decide) only [y1, read_at, readCov_at]
  isplitl [H9]
  · iexact H9
  isplitl [H10]
  · iexact H10
  isplitl [H11]
  · iexists _; isplitr
    swap; · iexact H11
    ipureintro; refine (read_top _ (by decide) _ _ _ _).trans ?_
    try sl_unfold_words
    simp (disch := decide) only [y1, read_at, readCov_at]
  · iexists _; isplitr
    swap; · iexact H12
    ipureintro; refine (read_top _ (by decide) _ _ _ _).trans ?_
    try sl_unfold_words
    simp (disch := decide) only [y1, read_at, readCov_at]

set_option maxHeartbeats 2000000 in
/-- At the last point: the running sums take in the point's block and the scale and shift are computed from them. -/
theorem body1_last (c : Dev nD) (E : Set ℕ) (i : grid1.Coords) (arg2 : Memref sig .tc .vmem S1x3x512 .f32) (harg2 : arg2.IsWhole) (arg3 : Memref sig .tc .vmem S1x1024x3 .f32) (harg3 : arg3.IsWhole) (arg4 : Memref sig .tc .vmem S1x256x1024 .bf16) (harg4 : arg4.IsWhole) (arg5 : Memref sig .tc .vmem S1x256x512 .f32) (harg5 : arg5.IsWhole) (arg6 : Memref sig .tc .vmem S256x256 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S1x256x512 .bf16) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole)
    (hc0 : ¬first1 i) (hc1 : last1 i) (x0 : Vec F S1x3x512 .f32) (x1 : Vec F S1x1024x3 .f32) (x2 : Vec F S1x256x1024 .bf16) (x3 : Vec F S1x256x512 .f32) (x4 : Vec F S256x256 .f32) (x5 : Vec F S256x1 .f32) (x6 : Vec F S256x1 .f32) (x7 : Vec F S256x1 .f32) (s0 : Vec F S256x1 .f32) (s1 : Vec F S256x1 .f32) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ (∃ d, owns (c : Thread nD τ) arg10 fullShare d)
        ∗ (∃ d, owns (c : Thread nD τ) arg11 fullShare d)
        ∗ (∃ d, owns (c : Thread nD τ) arg12 fullShare d)
        ∗ owns (c : Thread nD τ) arg13 fullShare s0
        ∗ owns (c : Thread nD τ) arg14 fullShare s1
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare (k1_pay5 (y1 x0 x1 x2 x3 x4 x5))
        ∗ owns (c : Thread nD τ) arg11 fullShare (k1_pay7 (k1_pay3 (y1 x0 x1 x2 x3 x4 x5) s0) (k1_pay4 (y1 x0 x1 x2 x3 x4 x5) s1) x6)
        ∗ owns (c : Thread nD τ) arg12 fullShare (k1_pay8 (k1_pay3 (y1 x0 x1 x2 x3 x4 x5) s0) (k1_pay4 (y1 x0 x1 x2 x3 x4 x5) s1) x6 x7)
        ∗ owns (c : Thread nD τ) arg13 fullShare (k1_pay3 (y1 x0 x1 x2 x3 x4 x5) s0)
        ∗ owns (c : Thread nD τ) arg14 fullShare (k1_pay4 (y1 x0 x1 x2 x3 x4 x5) s1)) -∗ K ⟨⟩))
      ⊢ wp frame (wpE (defs₀ (F := F)) Variants.none c none) E (cc1__phase_a_kernel i arg2 harg2 arg3 harg3 arg4 harg4 arg5 harg5 arg6 harg6 arg7 harg7 arg8 harg8 arg9 harg9 arg10 harg10 arg11 harg11 arg12 harg12 arg13 harg13 arg14 harg14) K := by
  simp only [cc1__phase_a_kernel_eq_skeleton]; unfold cc1__phase_a_kernel_skel
  simp only [k1_part1_eq_skeleton]
  simp only [k1_part2_eq_skeleton]
  simp only [k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg13.eq_unread hf11
  obtain rfl := harg14.eq_unread hf12
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro; refine (read_top _ (by decide) _ _ _ _).trans ?_
    try sl_unfold_words
    simp (disch := decide) only [y1, read_at, readCov_at]
  isplitl [H9]
  · iexists _; isplitr
    swap; · iexact H9
    ipureintro; refine (read_top _ (by decide) _ _ _ _).trans ?_
    try sl_unfold_words
    simp (disch := decide) only [y1, read_at, readCov_at]
  isplitl [H10]
  · iexists _; isplitr
    swap; · iexact H10
    ipureintro; refine (read_top _ (by decide) _ _ _ _).trans ?_
    try sl_unfold_words
    simp (disch := decide) only [y1, read_at, readCov_at]
  isplitl [H11]
  · iexists _; isplitr
    swap; · iexact H11
    ipureintro; refine (read_top _ (by decide) _ _ _ _).trans ?_
    try sl_unfold_words
    simp (disch := decide) only [y1, read_at, readCov_at]
  · iexists _; isplitr
    swap; · iexact H12
    ipureintro; refine (read_top _ (by decide) _ _ _ _).trans ?_
    try sl_unfold_words
    simp (disch := decide) only [y1, read_at, readCov_at]

end Cert.KernelIdeal.Hand

end
-- ==== Proof.KernelIdeal.Region1.lean ====
/- The second call over its grid: its two running sums, and its three results. -/
module

public import proofs.«01_k».proof.Proof.KernelIdeal.Body1

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UR sig nD τ) ℕ

variable (V : (c : Dev nD) → (b : Ref sig .tc) → Buf (Elt F) ((c : Thread nD τ).loc b))

/-- A window's block at a point of the call's grid, cut out of its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two running contents of the scratch after a point: started from zero at the first point, carried on at the others. -/
def carry1 (c : Dev nD) : (n : ℕ) → n < cfg1.N → Vec F S256x1 .f32 × Vec F S256x1 .f32
  | 0, h => let t : Fin cfg1.N := ⟨0, h⟩; (k1_pay3 (y1 (iblk1 V c 0 t) (iblk1 V c 1 t) (iblk1 V c 2 t) (iblk1 V c 3 t) (iblk1 V c 4 t) (iblk1 V c 5 t)) (k1_pay1 (F := F)), k1_pay4 (y1 (iblk1 V c 0 t) (iblk1 V c 1 t) (iblk1 V c 2 t) (iblk1 V c 3 t) (iblk1 V c 4 t) (iblk1 V c 5 t)) (k1_pay2 (F := F)))
  | n + 1, h => let t : Fin cfg1.N := ⟨n + 1, h⟩
      (k1_pay3 (y1 (iblk1 V c 0 t) (iblk1 V c 1 t) (iblk1 V c 2 t) (iblk1 V c 3 t) (iblk1 V c 4 t) (iblk1 V c 5 t)) (carry1 c n (Nat.lt_of_succ_lt h)).1, k1_pay4 (y1 (iblk1 V c 0 t) (iblk1 V c 1 t) (iblk1 V c 2 t) (iblk1 V c 3 t) (iblk1 V c 4 t) (iblk1 V c 5 t)) (carry1 c n (Nat.lt_of_succ_lt h)).2)

theorem carry1_first (c : Dev nD) (t : Fin cfg1.N) (h : t.val = 0) :
    carry1 V c t.val t.isLt = (k1_pay3 (y1 (iblk1 V c 0 t) (iblk1 V c 1 t) (iblk1 V c 2 t) (iblk1 V c 3 t) (iblk1 V c 4 t) (iblk1 V c 5 t)) (k1_pay1 (F := F)), k1_pay4 (y1 (iblk1 V c 0 t) (iblk1 V c 1 t) (iblk1 V c 2 t) (iblk1 V c 3 t) (iblk1 V c 4 t) (iblk1 V c 5 t)) (k1_pay2 (F := F))) := by
  obtain ⟨n, hn⟩ := t
  subst h
  rfl

theorem carry1_next (c : Dev nD) (t : Fin cfg1.N) (h : t.val ≠ 0) :
    carry1 V c t.val t.isLt = (k1_pay3 (y1 (iblk1 V c 0 t) (iblk1 V c 1 t) (iblk1 V c 2 t) (iblk1 V c 3 t) (iblk1 V c 4 t) (iblk1 V c 5 t)) (carry1 V c (t.val - 1) (by omega)).1, k1_pay4 (y1 (iblk1 V c 0 t) (iblk1 V c 1 t) (iblk1 V c 2 t) (iblk1 V c 3 t) (iblk1 V c 4 t) (iblk1 V c 5 t)) (carry1 V c (t.val - 1) (by omega)).2) := by
  obtain ⟨n, hn⟩ := t
  cases n with
  | zero => exact absurd rfl h
  | succ n => rfl

/-- Between points: the scratch at what the last point left, the other scoped buffers and the generator register at anything. -/
def between1 (c : Dev nD) : (n : ℕ) → n ≤ cfg1.N → sProp 𝕄
  | 0, _ => Pipeline.ΦA spec1 c
  | n + 1, h => iprop(iprop(iprop(owns (c : Thread nD τ) (Memref.whole cc1_scratch0) fullShare (carry1 V c n h).1
        ∗ owns (c : Thread nD τ) (Memref.whole cc1_scratch1) fullShare (carry1 V c n h).2)
      ∗ Pipeline.scopedRestBut (Ix := Unit) (Name := ℕ) (U := UR sig nD τ) (Lvl := ℕ) (Val := Elt F) spec1 c [cc1_scratch0, cc1_scratch1]) ∗ ∃ r, prngReg c r)

theorem between1_zero (c : Dev nD) (n : ℕ) (h : n ≤ cfg1.N) (hz : n = 0) : between1 V c n h = Pipeline.ΦA spec1 c := by
  subst hz; rfl

theorem between1_succ (c : Dev nD) (n : ℕ) (h : n < cfg1.N) :
    between1 V c (n + 1) h = iprop(iprop(iprop(owns (c : Thread nD τ) (Memref.whole cc1_scratch0) fullShare (carry1 V c n h).1
        ∗ owns (c : Thread nD τ) (Memref.whole cc1_scratch1) fullShare (carry1 V c n h).2)
      ∗ Pipeline.scopedRestBut (Ix := Unit) (Name := ℕ) (U := UR sig nD τ) (Lvl := ℕ) (Val := Elt F) spec1 c [cc1_scratch0, cc1_scratch1]) ∗ ∃ r, prngReg c r) := rfl

theorem between1_pos (c : Dev nD) (n : ℕ) (h : n ≤ cfg1.N) (hz : n ≠ 0) :
    between1 V c n h = iprop(iprop(iprop(owns (c : Thread nD τ) (Memref.whole cc1_scratch0) fullShare (carry1 V c (n - 1) (by omega)).1
        ∗ owns (c : Thread nD τ) (Memref.whole cc1_scratch1) fullShare (carry1 V c (n - 1) (by omega)).2)
      ∗ Pipeline.scopedRestBut (Ix := Unit) (Name := ℕ) (U := UR sig nD τ) (Lvl := ℕ) (Val := Elt F) spec1 c [cc1_scratch0, cc1_scratch1]) ∗ ∃ r, prngReg c r) := by
  cases n with
  | zero => exact absurd rfl hz
  | succ n => rfl

/-- The launch's invariant, with the two scratch buffers taken out of the scoped rest. -/
theorem rest1 (c : Dev nD) : (Pipeline.ΦA spec1 c : sProp 𝕄)
    = iprop(iprop(iprop((∃ d, owns (c : Thread nD τ) (Memref.whole cc1_scratch0) fullShare (d : Vec F S256x1 .f32))
        ∗ (∃ d, owns (c : Thread nD τ) (Memref.whole cc1_scratch1) fullShare (d : Vec F S256x1 .f32)))
      ∗ Pipeline.scopedRestBut (Ix := Unit) (Name := ℕ) (U := UR sig nD τ) (Lvl := ℕ) (Val := Elt F) spec1 c [cc1_scratch0, cc1_scratch1]) ∗ ∃ r, prngReg c r) := by
  unfold Pipeline.ΦA; rw [scopedRest1_split]; simp only [owns_whole]; rfl

/-- What the pipeline of the call does with its buffers: the arrays as found, each input's buffer at its block, each
    output's at what the body computes from the blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => k1_pay5 (y1 (iblk1 V c 0 t) (iblk1 V c 1 t) (iblk1 V c 2 t) (iblk1 V c 3 t) (iblk1 V c 4 t) (iblk1 V c 5 t))
    | ⟨9, _⟩ => k1_pay7 (carry1 V c t.val t.isLt).1 (carry1 V c t.val t.isLt).2 (iblk1 V c 6 t)
    | ⟨10, _⟩ => k1_pay8 (carry1 V c t.val t.isLt).1 (carry1 V c t.val t.isLt).2 (iblk1 V c 6 t) (iblk1 V c 7 t)
  Φ t := between1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = k1_pay5 (y1 (iblk1 V c 0 t) (iblk1 V c 1 t) (iblk1 V c 2 t) (iblk1 V c 3 t) (iblk1 V c 4 t) (iblk1 V c 5 t)) := by dsimp only [dat1]
theorem after1_9 (c : Dev nD) (t : Fin cfg1.N) : (dat1 V c).after 9 t = k1_pay7 (carry1 V c t.val t.isLt).1 (carry1 V c t.val t.isLt).2 (iblk1 V c 6 t) := by dsimp only [dat1]
theorem after1_10 (c : Dev nD) (t : Fin cfg1.N) : (dat1 V c).after 10 t = k1_pay8 (carry1 V c t.val t.isLt).1 (carry1 V c t.val t.isLt).2 (iblk1 V c 6 t) (iblk1 V c 7 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

/-- What the body is handed at a point, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it hands back. -/
def post1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

theorem between1_castSucc (c : Dev nD) (t : Fin cfg1.N) :
    (dat1 V c).Φ t.castSucc = between1 V c t.val (Nat.le_of_lt t.isLt) := by
  dsimp only [dat1]; exact Pipeline.Dat.Φ_castSucc (between1 V c) t

/-- The body's two questions, decided over the grid. -/
theorem isFirst1 : ∀ t : Fin cfg1.N, first1 (grid1.coords t) ↔ t.val = 0 :=
  (by decide +kernel : ∀ t : Fin grid1.N, first1 (grid1.coords t) ↔ t.val = 0)
theorem isLast1 : ∀ t : Fin cfg1.N, last1 (grid1.coords t) ↔ t.val = 127 :=
  (by decide +kernel : ∀ t : Fin grid1.N, last1 (grid1.coords t) ↔ t.val = 127)
theorem idle1_9 : ∀ t : Fin cfg1.N, t.val ≠ 127 → cfg1.idle 9 (grid1.coords t) = true :=
  (by decide +kernel : ∀ t : Fin grid1.N, t.val ≠ 127 → cfg1.idle 9 (grid1.coords t) = true)
theorem live1_9 : ∀ t : Fin cfg1.N, t.val = 127 → cfg1.idle 9 (grid1.coords t) = false :=
  (by decide +kernel : ∀ t : Fin grid1.N, t.val = 127 → cfg1.idle 9 (grid1.coords t) = false)
theorem noFlush1_9 (t : Fin cfg1.N) (h : t.val ≠ 127) : (cfg1.win 9).flush t = false := by
  have hN : t.val < 128 := lt_of_lt_of_eq t.isLt (show cfg1.N = 128 from N_1)
  rw [Bool.eq_false_iff]; intro hf
  have := (flush1_9 t).mp hf; omega
theorem idle1_10 : ∀ t : Fin cfg1.N, t.val ≠ 127 → cfg1.idle 10 (grid1.coords t) = true :=
  (by decide +kernel : ∀ t : Fin grid1.N, t.val ≠ 127 → cfg1.idle 10 (grid1.coords t) = true)
theorem live1_10 : ∀ t : Fin cfg1.N, t.val = 127 → cfg1.idle 10 (grid1.coords t) = false :=
  (by decide +kernel : ∀ t : Fin grid1.N, t.val = 127 → cfg1.idle 10 (grid1.coords t) = false)
theorem noFlush1_10 (t : Fin cfg1.N) (h : t.val ≠ 127) : (cfg1.win 10).flush t = false := by
  have hN : t.val < 128 := lt_of_lt_of_eq t.isLt (show cfg1.N = 128 from N_1)
  rw [Bool.eq_false_iff]; intro hf
  have := (flush1_10 t).mp hf; omega

set_option maxHeartbeats 8000000 in
/-- The body at a point, from its blocks and what the scratch holds. -/
theorem at1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5, before1_6, before1_7]
  rw [show (dat1 V c).owesAt () t.succ = (dat1 V c).owesAt () t.castSucc from rfl,
    show (dat1 V c).Φ t.succ = between1 V c (t.val + 1) t.isLt from rfl, between1_succ V c t.val t.isLt]
  have hN : t.val < 128 := lt_of_lt_of_eq t.isLt (show cfg1.N = 128 from N_1)
  rw [show (dat1 V c).leavesExact 0 t = owns (c : Thread nD τ) (st1_0 t) fullShare ((dat1 V c).after 0 t) from by
    unfold Dat.leavesExact; rw [show cfg1.idle 0 (grid1.coords t) = false from rfl], after1_0]
  rw [show (dat1 V c).leavesExact 1 t = owns (c : Thread nD τ) (st1_1 t) fullShare ((dat1 V c).after 1 t) from by
    unfold Dat.leavesExact; rw [show cfg1.idle 1 (grid1.coords t) = false from rfl], after1_1]
  rw [show (dat1 V c).leavesExact 2 t = owns (c : Thread nD τ) (st1_2 t) fullShare ((dat1 V c).after 2 t) from by
    unfold Dat.leavesExact; rw [show cfg1.idle 2 (grid1.coords t) = false from rfl], after1_2]
  rw [show (dat1 V c).leavesExact 3 t = owns (c : Thread nD τ) (st1_3 t) fullShare ((dat1 V c).after 3 t) from by
    unfold Dat.leavesExact; rw [show cfg1.idle 3 (grid1.coords t) = false from rfl], after1_3]
  rw [show (dat1 V c).leavesExact 4 t = owns (c : Thread nD τ) (st1_4 t) fullShare ((dat1 V c).after 4 t) from by
    unfold Dat.leavesExact; rw [show cfg1.idle 4 (grid1.coords t) = false from rfl], after1_4]
  rw [show (dat1 V c).leavesExact 5 t = owns (c : Thread nD τ) (st1_5 t) fullShare ((dat1 V c).after 5 t) from by
    unfold Dat.leavesExact; rw [show cfg1.idle 5 (grid1.coords t) = false from rfl], after1_5]
  rw [show (dat1 V c).leavesExact 6 t = owns (c : Thread nD τ) (st1_6 t) fullShare ((dat1 V c).after 6 t) from by
    unfold Dat.leavesExact; rw [show cfg1.idle 6 (grid1.coords t) = false from rfl], after1_6]
  rw [show (dat1 V c).leavesExact 7 t = owns (c : Thread nD τ) (st1_7 t) fullShare ((dat1 V c).after 7 t) from by
    unfold Dat.leavesExact; rw [show cfg1.idle 7 (grid1.coords t) = false from rfl], after1_7]
  rw [show (dat1 V c).leavesExact 8 t = owns (c : Thread nD τ) (st1_8 t) fullShare ((dat1 V c).after 8 t) from by
    unfold Dat.leavesExact; rw [show cfg1.idle 8 (grid1.coords t) = false from rfl], after1_8]
  by_cases h0 : t.val = 0
  · have h1 : t.val ≠ 127 := by omega
    rw [Dat.leavesExact_idle (dat1 V c) 9 t (idle1_9 t h1) (noFlush1_9 t h1)]
    rw [Dat.leavesExact_idle (dat1 V c) 10 t (idle1_10 t h1) (noFlush1_10 t h1)]
    rw [between1_castSucc V c t, between1_zero V c _ _ h0, rest1, carry1_first V c t h0]
    dsimp only
    iintro ⟨⟨⟨⟨⟨%e0, HS0⟩, ⟨%e1, HS1⟩⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body1_first c Set.univ (grid1.coords t) _ _ _ _ _ _ _ _ _ _ _ _ _ _ _ _ _ _ _ _ _ _ _ _ _ _ ((isFirst1 t).mpr h0) (fun h => h1 ((isLast1 t).mp h)) (iblk1 V c 0 t) (iblk1 V c 1 t) (iblk1 V c 2 t) (iblk1 V c 3 t) (iblk1 V c 4 t) (iblk1 V c 5 t) (iblk1 V c 6 t) (iblk1 V c 7 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [HS0]; · iexists _; iexact HS0
    isplitl [HS1]; · iexists _; iexact HS1
    iintro ⟨H0, H1, H2, H3, H4, H5, H6, H7, H8, H9, H10, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10
  · by_cases h1 : t.val = 127
    · rw [show (dat1 V c).leavesExact 9 t = owns (c : Thread nD τ) (st1_9 t) fullShare ((dat1 V c).after 9 t) from by
    unfold Dat.leavesExact; rw [show cfg1.idle 9 (grid1.coords t) = false from live1_9 t h1], after1_9]
      rw [show (dat1 V c).leavesExact 10 t = owns (c : Thread nD τ) (st1_10 t) fullShare ((dat1 V c).after 10 t) from by
    unfold Dat.leavesExact; rw [show cfg1.idle 10 (grid1.coords t) = false from live1_10 t h1], after1_10]
      rw [between1_castSucc V c t, between1_pos V c _ _ h0, carry1_next V c t h0]
      dsimp only
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (body1_last c Set.univ (grid1.coords t) _ _ _ _ _ _ _ _ _ _ _ _ _ _ _ _ _ _ _ _ _ _ _ _ _ _ (fun h => h0 ((isFirst1 t).mp h)) ((isLast1 t).mpr h1) (iblk1 V c 0 t) (iblk1 V c 1 t) (iblk1 V c 2 t) (iblk1 V c 3 t) (iblk1 V c 4 t) (iblk1 V c 5 t) (iblk1 V c 6 t) (iblk1 V c 7 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      iintro ⟨H0, H1, H2, H3, H4, H5, H6, H7, H8, H9, H10, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [Dat.leavesExact_idle (dat1 V c) 9 t (idle1_9 t h1) (noFlush1_9 t h1)]
      rw [Dat.leavesExact_idle (dat1 V c) 10 t (idle1_10 t h1) (noFlush1_10 t h1)]
      rw [between1_castSucc V c t, between1_pos V c _ _ h0, carry1_next V c t h0]
      dsimp only
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (body1_mid c Set.univ (grid1.coords t) _ _ _ _ _ _ _ _ _ _ _ _ _ _ _ _ _ _ _ _ _ _ _ _ _ _ (fun h => h0 ((isFirst1 t).mp h)) (fun h => h1 ((isLast1 t).mp h)) (iblk1 V c 0 t) (iblk1 V c 1 t) (iblk1 V c 2 t) (iblk1 V c 3 t) (iblk1 V c 4 t) (iblk1 V c 5 t) (iblk1 V c 6 t) (iblk1 V c 7 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [HS0]; · iexact HS0
      isplitl [HS1]; · iexact HS1
      iintro ⟨H0, H1, H2, H3, H4, H5, H6, H7, H8, H9, H10, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

/-- The call's body meets the pipeline's demand at every point. -/
theorem obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (at1 V c t) rfl .rfl fun _ => .rfl

/-- Before the first point the invariant is the launch's. -/
theorem enter1 (c : Dev nD) : (dat1 V c).Φ 0 = Pipeline.ΦA spec1 c := by
  rw [show (dat1 V c).Φ 0 = between1 V c 0 (Nat.zero_le _) from rfl, between1_zero V c 0 _ rfl]

/-- After the last point it gives the launch's back: what the scratch holds is forgotten. -/
theorem leave1 (c : Dev nD) : (dat1 V c).Φ (Fin.last cfg1.N) ⊢ Pipeline.ΦA spec1 c := by
  rw [show (dat1 V c).Φ (Fin.last cfg1.N) = between1 V c cfg1.N (le_refl _) from rfl,
    between1_pos V c _ _ (by have : cfg1.N = 128 := N_1; omega), rest1]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

end Cert.KernelIdeal.Hand

end
-- ==== Proof.KernelIdeal.Body2.lean ====
/- The body of the third call at its first point, at a point between, and at its last. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.ValueKit
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdeal.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UR sig nD τ) ℕ

/-- Whether a point is the first of the third call's grid, as its body asks. -/
abbrev first2 (i : grid2.Coords) : Prop := Scalar.cmpi .ne (Scalar.extui (Scalar.cmpi .eq (BitVec.ofNat 32 (i 0).val) 0#32)) 0#32 = 1#1
/-- Whether it is the last. -/
abbrev last2 (i : grid2.Coords) : Prop := k2_cond2 i = 1#1

set_option maxHeartbeats 2000000 in
/-- At the first point: the sum and the matrix of products start from zero. -/
theorem body2_first (c : Dev nD) (E : Set ℕ) (i : grid2.Coords) (arg1 : Memref sig .tc .vmem S1x256x4096 .bf16) (harg1 : arg1.IsWhole) (arg2 : Memref sig .tc .vmem S256x1 .f32) (harg2 : arg2.IsWhole) (arg3 : Memref sig .tc .vmem S256x1 .f32) (harg3 : arg3.IsWhole) (arg4 : Memref sig .tc .vmem S256x256 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x256 .f32) (harg10 : arg10.IsWhole)
    (hc0 : first2 i) (hc1 : ¬last2 i) (x0 : Vec F S1x256x4096 .bf16) (x1 : Vec F S256x1 .f32) (x2 : Vec F S256x1 .f32) (x3 : Vec F S256x256 .f32) (x4 : Vec F S256x1 .f32) (x5 : Vec F S256x1 .f32) (d6 : Vec F S256x1 .f32) (d7 : Vec F S256x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare d6
        ∗ owns (c : Thread nD τ) arg8 fullShare d7
        ∗ (∃ d, owns (c : Thread nD τ) arg9 fullShare d)
        ∗ (∃ d, owns (c : Thread nD τ) arg10 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare d6
        ∗ owns (c : Thread nD τ) arg8 fullShare d7
        ∗ owns (c : Thread nD τ) arg9 fullShare (k2_pay4 x0 x1 x2 (k2_pay2 (F := F)))
        ∗ owns (c : Thread nD τ) arg10 fullShare (k2_pay5 x0 x1 x2 (k2_pay3 (F := F)))) -∗ K ⟨⟩))
      ⊢ wp frame (wpE (defs₀ (F := F)) Variants.none c none) E (cc2__phase_b_kernel i arg1 harg1 arg2 harg2 arg3 harg3 arg4 harg4 arg5 harg5 arg6 harg6 arg7 harg7 arg8 harg8 arg9 harg9 arg10 harg10) K := by
  simp only [cc2__phase_b_kernel_eq_skeleton]; unfold cc2__phase_b_kernel_skel
  simp only [k2_part1_eq_skeleton]
  unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, H6, H7, ⟨%d8, %f8, -, H8⟩, ⟨%d9, %f9, -, H9⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexact H6
  isplitl [H7]
  · iexact H7
  isplitl [H8]
  · iexists _; isplitr
    swap; · iexact H8
    ipureintro; refine (read_top _ (by decide) _ _ _ _).trans ?_
    try sl_unfold_words
    simp (disch := decide) only [read_at, readCov_at]
  · iexists _; isplitr
    swap; · iexact H9
    ipureintro; refine (read_top _ (by decide) _ _ _ _).trans ?_
    try sl_unfold_words
    simp (disch := decide) only [read_at, readCov_at]

set_option maxHeartbeats 2000000 in
/-- At a point between: both take in the point's block. -/
theorem body2_mid (c : Dev nD) (E : Set ℕ) (i : grid2.Coords) (arg1 : Memref sig .tc .vmem S1x256x4096 .bf16) (harg1 : arg1.IsWhole) (arg2 : Memref sig .tc .vmem S256x1 .f32) (harg2 : arg2.IsWhole) (arg3 : Memref sig .tc .vmem S256x1 .f32) (harg3 : arg3.IsWhole) (arg4 : Memref sig .tc .vmem S256x256 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x256 .f32) (harg10 : arg10.IsWhole)
    (hc0 : ¬first2 i) (hc1 : ¬last2 i) (x0 : Vec F S1x256x4096 .bf16) (x1 : Vec F S256x1 .f32) (x2 : Vec F S256x1 .f32) (x3 : Vec F S256x256 .f32) (x4 : Vec F S256x1 .f32) (x5 : Vec F S256x1 .f32) (d6 : Vec F S256x1 .f32) (d7 : Vec F S256x1 .f32) (s0 : Vec F S256x1 .f32) (s1 : Vec F S256x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare d6
        ∗ owns (c : Thread nD τ) arg8 fullShare d7
        ∗ owns (c : Thread nD τ) arg9 fullShare s0
        ∗ owns (c : Thread nD τ) arg10 fullShare s1
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare d6
        ∗ owns (c : Thread nD τ) arg8 fullShare d7
        ∗ owns (c : Thread nD τ) arg9 fullShare (k2_pay4 x0 x1 x2 s0)
        ∗ owns (c : Thread nD τ) arg10 fullShare (k2_pay5 x0 x1 x2 s1)) -∗ K ⟨⟩))
      ⊢ wp frame (wpE (defs₀ (F := F)) Variants.none c none) E (cc2__phase_b_kernel i arg1 harg1 arg2 harg2 arg3 harg3 arg4 harg4 arg5 harg5 arg6 harg6 arg7 harg7 arg8 harg8 arg9 harg9 arg10 harg10) K := by
  simp only [cc2__phase_b_kernel_eq_skeleton]; unfold cc2__phase_b_kernel_skel
  simp only [k2_part1_eq_skeleton]
  unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, H6, H7, ⟨%f8, %hf8, H8⟩, ⟨%f9, %hf9, H9⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg9.eq_unread hf8
  obtain rfl := harg10.eq_unread hf9
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexact H6
  isplitl [H7]
  · iexact H7
  isplitl [H8]
  · iexists _; isplitr
    swap; · iexact H8
    ipureintro; refine (read_top _ (by decide) _ _ _ _).trans ?_
    try sl_unfold_words
    simp (disch := decide) only [read_at, readCov_at]
  · iexists _; isplitr
    swap; · iexact H9
    ipureintro; refine (read_top _ (by decide) _ _ _ _).trans ?_
    try sl_unfold_words
    simp (disch := decide) only [read_at, readCov_at]

set_option maxHeartbeats 2000000 in
/-- At the last point: both take in the point's block and the second layer's scale and shift are computed from them. -/
theorem body2_last (c : Dev nD) (E : Set ℕ) (i : grid2.Coords) (arg1 : Memref sig .tc .vmem S1x256x4096 .bf16) (harg1 : arg1.IsWhole) (arg2 : Memref sig .tc .vmem S256x1 .f32) (harg2 : arg2.IsWhole) (arg3 : Memref sig .tc .vmem S256x1 .f32) (harg3 : arg3.IsWhole) (arg4 : Memref sig .tc .vmem S256x256 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x256 .f32) (harg10 : arg10.IsWhole)
    (hc0 : ¬first2 i) (hc1 : last2 i) (x0 : Vec F S1x256x4096 .bf16) (x1 : Vec F S256x1 .f32) (x2 : Vec F S256x1 .f32) (x3 : Vec F S256x256 .f32) (x4 : Vec F S256x1 .f32) (x5 : Vec F S256x1 .f32) (s0 : Vec F S256x1 .f32) (s1 : Vec F S256x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ (∃ d, owns (c : Thread nD τ) arg7 fullShare d)
        ∗ (∃ d, owns (c : Thread nD τ) arg8 fullShare d)
        ∗ owns (c : Thread nD τ) arg9 fullShare s0
        ∗ owns (c : Thread nD τ) arg10 fullShare s1
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare (k2_pay7 x3 (k2_pay4 x0 x1 x2 s0) (k2_pay5 x0 x1 x2 s1) x4)
        ∗ owns (c : Thread nD τ) arg8 fullShare (k2_pay8 x3 (k2_pay4 x0 x1 x2 s0) (k2_pay5 x0 x1 x2 s1) x4 x5)
        ∗ owns (c : Thread nD τ) arg9 fullShare (k2_pay4 x0 x1 x2 s0)
        ∗ owns (c : Thread nD τ) arg10 fullShare (k2_pay5 x0 x1 x2 s1)) -∗ K ⟨⟩))
      ⊢ wp frame (wpE (defs₀ (F := F)) Variants.none c none) E (cc2__phase_b_kernel i arg1 harg1 arg2 harg2 arg3 harg3 arg4 harg4 arg5 harg5 arg6 harg6 arg7 harg7 arg8 harg8 arg9 harg9 arg10 harg10) K := by
  simp only [cc2__phase_b_kernel_eq_skeleton]; unfold cc2__phase_b_kernel_skel
  simp only [k2_part1_eq_skeleton]
  unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg9.eq_unread hf8
  obtain rfl := harg10.eq_unread hf9
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro; refine (read_top _ (by decide) _ _ _ _).trans ?_
    try sl_unfold_words
    simp (disch := decide) only [read_at, readCov_at]
  isplitl [H7]
  · iexists _; isplitr
    swap; · iexact H7
    ipureintro; refine (read_top _ (by decide) _ _ _ _).trans ?_
    try sl_unfold_words
    simp (disch := decide) only [read_at, readCov_at]
  isplitl [H8]
  · iexists _; isplitr
    swap; · iexact H8
    ipureintro; refine (read_top _ (by decide) _ _ _ _).trans ?_
    try sl_unfold_words
    simp (disch := decide) only [read_at, readCov_at]
  · iexists _; isplitr
    swap; · iexact H9
    ipureintro; refine (read_top _ (by decide) _ _ _ _).trans ?_
    try sl_unfold_words
    simp (disch := decide) only [read_at, readCov_at]

end Cert.KernelIdeal.Hand

end
-- ==== Proof.KernelIdeal.Region2.lean ====
/- The third call over its grid: its running sum and matrix of products, and its two results. -/
module

public import proofs.«01_k».proof.Proof.KernelIdeal.Body2

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UR sig nD τ) ℕ

variable (V : (c : Dev nD) → (b : Ref sig .tc) → Buf (Elt F) ((c : Thread nD τ).loc b))

/-- A window's block at a point of the call's grid, cut out of its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two running contents of the scratch after a point: started from zero at the first point, carried on at the others. -/
def carry2 (c : Dev nD) : (n : ℕ) → n < cfg2.N → Vec F S256x1 .f32 × Vec F S256x256 .f32
  | 0, h => let t : Fin cfg2.N := ⟨0, h⟩; (k2_pay4 (iblk2 V c 0 t) (iblk2 V c 1 t) (iblk2 V c 2 t) (k2_pay2 (F := F)), k2_pay5 (iblk2 V c 0 t) (iblk2 V c 1 t) (iblk2 V c 2 t) (k2_pay3 (F := F)))
  | n + 1, h => let t : Fin cfg2.N := ⟨n + 1, h⟩
      (k2_pay4 (iblk2 V c 0 t) (iblk2 V c 1 t) (iblk2 V c 2 t) (carry2 c n (Nat.lt_of_succ_lt h)).1, k2_pay5 (iblk2 V c 0 t) (iblk2 V c 1 t) (iblk2 V c 2 t) (carry2 c n (Nat.lt_of_succ_lt h)).2)

theorem carry2_first (c : Dev nD) (t : Fin cfg2.N) (h : t.val = 0) :
    carry2 V c t.val t.isLt = (k2_pay4 (iblk2 V c 0 t) (iblk2 V c 1 t) (iblk2 V c 2 t) (k2_pay2 (F := F)), k2_pay5 (iblk2 V c 0 t) (iblk2 V c 1 t) (iblk2 V c 2 t) (k2_pay3 (F := F))) := by
  obtain ⟨n, hn⟩ := t
  subst h
  rfl

theorem carry2_next (c : Dev nD) (t : Fin cfg2.N) (h : t.val ≠ 0) :
    carry2 V c t.val t.isLt = (k2_pay4 (iblk2 V c 0 t) (iblk2 V c 1 t) (iblk2 V c 2 t) (carry2 V c (t.val - 1) (by omega)).1, k2_pay5 (iblk2 V c 0 t) (iblk2 V c 1 t) (iblk2 V c 2 t) (carry2 V c (t.val - 1) (by omega)).2) := by
  obtain ⟨n, hn⟩ := t
  cases n with
  | zero => exact absurd rfl h
  | succ n => rfl

/-- Between points: the scratch at what the last point left, the other scoped buffers and the generator register at anything. -/
def between2 (c : Dev nD) : (n : ℕ) → n ≤ cfg2.N → sProp 𝕄
  | 0, _ => Pipeline.ΦA spec2 c
  | n + 1, h => iprop(iprop(iprop(owns (c : Thread nD τ) (Memref.whole cc2_scratch0) fullShare (carry2 V c n h).1
        ∗ owns (c : Thread nD τ) (Memref.whole cc2_scratch1) fullShare (carry2 V c n h).2)
      ∗ Pipeline.scopedRestBut (Ix := Unit) (Name := ℕ) (U := UR sig nD τ) (Lvl := ℕ) (Val := Elt F) spec2 c [cc2_scratch0, cc2_scratch1]) ∗ ∃ r, prngReg c r)

theorem between2_zero (c : Dev nD) (n : ℕ) (h : n ≤ cfg2.N) (hz : n = 0) : between2 V c n h = Pipeline.ΦA spec2 c := by
  subst hz; rfl

theorem between2_succ (c : Dev nD) (n : ℕ) (h : n < cfg2.N) :
    between2 V c (n + 1) h = iprop(iprop(iprop(owns (c : Thread nD τ) (Memref.whole cc2_scratch0) fullShare (carry2 V c n h).1
        ∗ owns (c : Thread nD τ) (Memref.whole cc2_scratch1) fullShare (carry2 V c n h).2)
      ∗ Pipeline.scopedRestBut (Ix := Unit) (Name := ℕ) (U := UR sig nD τ) (Lvl := ℕ) (Val := Elt F) spec2 c [cc2_scratch0, cc2_scratch1]) ∗ ∃ r, prngReg c r) := rfl

theorem between2_pos (c : Dev nD) (n : ℕ) (h : n ≤ cfg2.N) (hz : n ≠ 0) :
    between2 V c n h = iprop(iprop(iprop(owns (c : Thread nD τ) (Memref.whole cc2_scratch0) fullShare (carry2 V c (n - 1) (by omega)).1
        ∗ owns (c : Thread nD τ) (Memref.whole cc2_scratch1) fullShare (carry2 V c (n - 1) (by omega)).2)
      ∗ Pipeline.scopedRestBut (Ix := Unit) (Name := ℕ) (U := UR sig nD τ) (Lvl := ℕ) (Val := Elt F) spec2 c [cc2_scratch0, cc2_scratch1]) ∗ ∃ r, prngReg c r) := by
  cases n with
  | zero => exact absurd rfl hz
  | succ n => rfl

/-- The launch's invariant, with the two scratch buffers taken out of the scoped rest. -/
theorem rest2 (c : Dev nD) : (Pipeline.ΦA spec2 c : sProp 𝕄)
    = iprop(iprop(iprop((∃ d, owns (c : Thread nD τ) (Memref.whole cc2_scratch0) fullShare (d : Vec F S256x1 .f32))
        ∗ (∃ d, owns (c : Thread nD τ) (Memref.whole cc2_scratch1) fullShare (d : Vec F S256x256 .f32)))
      ∗ Pipeline.scopedRestBut (Ix := Unit) (Name := ℕ) (U := UR sig nD τ) (Lvl := ℕ) (Val := Elt F) spec2 c [cc2_scratch0, cc2_scratch1]) ∗ ∃ r, prngReg c r) := by
  unfold Pipeline.ΦA; rw [scopedRest2_split]; simp only [owns_whole]; rfl

/-- What the pipeline of the call does with its buffers: the arrays as found, each input's buffer at its block, each
    output's at what the body computes from the blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => k2_pay7 (iblk2 V c 3 t) (carry2 V c t.val t.isLt).1 (carry2 V c t.val t.isLt).2 (iblk2 V c 4 t)
    | ⟨7, _⟩ => k2_pay8 (iblk2 V c 3 t) (carry2 V c t.val t.isLt).1 (carry2 V c t.val t.isLt).2 (iblk2 V c 4 t) (iblk2 V c 5 t)
  Φ t := between2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = k2_pay7 (iblk2 V c 3 t) (carry2 V c t.val t.isLt).1 (carry2 V c t.val t.isLt).2 (iblk2 V c 4 t) := by dsimp only [dat2]
theorem after2_7 (c : Dev nD) (t : Fin cfg2.N) : (dat2 V c).after 7 t = k2_pay8 (iblk2 V c 3 t) (carry2 V c t.val t.isLt).1 (carry2 V c t.val t.isLt).2 (iblk2 V c 4 t) (iblk2 V c 5 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

/-- What the body is handed at a point, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it hands back. -/
def post2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

theorem between2_castSucc (c : Dev nD) (t : Fin cfg2.N) :
    (dat2 V c).Φ t.castSucc = between2 V c t.val (Nat.le_of_lt t.isLt) := by
  dsimp only [dat2]; exact Pipeline.Dat.Φ_castSucc (between2 V c) t

/-- The body's two questions, decided over the grid. -/
theorem isFirst2 : ∀ t : Fin cfg2.N, first2 (grid2.coords t) ↔ t.val = 0 :=
  (by decide +kernel : ∀ t : Fin grid2.N, first2 (grid2.coords t) ↔ t.val = 0)
theorem isLast2 : ∀ t : Fin cfg2.N, last2 (grid2.coords t) ↔ t.val = 15 :=
  (by decide +kernel : ∀ t : Fin grid2.N, last2 (grid2.coords t) ↔ t.val = 15)
theorem idle2_6 : ∀ t : Fin cfg2.N, t.val ≠ 15 → cfg2.idle 6 (grid2.coords t) = true :=
  (by decide +kernel : ∀ t : Fin grid2.N, t.val ≠ 15 → cfg2.idle 6 (grid2.coords t) = true)
theorem live2_6 : ∀ t : Fin cfg2.N, t.val = 15 → cfg2.idle 6 (grid2.coords t) = false :=
  (by decide +kernel : ∀ t : Fin grid2.N, t.val = 15 → cfg2.idle 6 (grid2.coords t) = false)
theorem noFlush2_6 (t : Fin cfg2.N) (h : t.val ≠ 15) : (cfg2.win 6).flush t = false := by
  have hN : t.val < 16 := lt_of_lt_of_eq t.isLt (show cfg2.N = 16 from N_2)
  rw [Bool.eq_false_iff]; intro hf
  have := (flush2_6 t).mp hf; omega
theorem idle2_7 : ∀ t : Fin cfg2.N, t.val ≠ 15 → cfg2.idle 7 (grid2.coords t) = true :=
  (by decide +kernel : ∀ t : Fin grid2.N, t.val ≠ 15 → cfg2.idle 7 (grid2.coords t) = true)
theorem live2_7 : ∀ t : Fin cfg2.N, t.val = 15 → cfg2.idle 7 (grid2.coords t) = false :=
  (by decide +kernel : ∀ t : Fin grid2.N, t.val = 15 → cfg2.idle 7 (grid2.coords t) = false)
theorem noFlush2_7 (t : Fin cfg2.N) (h : t.val ≠ 15) : (cfg2.win 7).flush t = false := by
  have hN : t.val < 16 := lt_of_lt_of_eq t.isLt (show cfg2.N = 16 from N_2)
  rw [Bool.eq_false_iff]; intro hf
  have := (flush2_7 t).mp hf; omega

set_option maxHeartbeats 8000000 in
/-- The body at a point, from its blocks and what the scratch holds. -/
theorem at2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1, before2_2, before2_3, before2_4, before2_5]
  rw [show (dat2 V c).owesAt () t.succ = (dat2 V c).owesAt () t.castSucc from rfl,
    show (dat2 V c).Φ t.succ = between2 V c (t.val + 1) t.isLt from rfl, between2_succ V c t.val t.isLt]
  have hN : t.val < 16 := lt_of_lt_of_eq t.isLt (show cfg2.N = 16 from N_2)
  rw [show (dat2 V c).leavesExact 0 t = owns (c : Thread nD τ) (st2_0 t) fullShare ((dat2 V c).after 0 t) from by
    unfold Dat.leavesExact; rw [show cfg2.idle 0 (grid2.coords t) = false from rfl], after2_0]
  rw [show (dat2 V c).leavesExact 1 t = owns (c : Thread nD τ) (st2_1 t) fullShare ((dat2 V c).after 1 t) from by
    unfold Dat.leavesExact; rw [show cfg2.idle 1 (grid2.coords t) = false from rfl], after2_1]
  rw [show (dat2 V c).leavesExact 2 t = owns (c : Thread nD τ) (st2_2 t) fullShare ((dat2 V c).after 2 t) from by
    unfold Dat.leavesExact; rw [show cfg2.idle 2 (grid2.coords t) = false from rfl], after2_2]
  rw [show (dat2 V c).leavesExact 3 t = owns (c : Thread nD τ) (st2_3 t) fullShare ((dat2 V c).after 3 t) from by
    unfold Dat.leavesExact; rw [show cfg2.idle 3 (grid2.coords t) = false from rfl], after2_3]
  rw [show (dat2 V c).leavesExact 4 t = owns (c : Thread nD τ) (st2_4 t) fullShare ((dat2 V c).after 4 t) from by
    unfold Dat.leavesExact; rw [show cfg2.idle 4 (grid2.coords t) = false from rfl], after2_4]
  rw [show (dat2 V c).leavesExact 5 t = owns (c : Thread nD τ) (st2_5 t) fullShare ((dat2 V c).after 5 t) from by
    unfold Dat.leavesExact; rw [show cfg2.idle 5 (grid2.coords t) = false from rfl], after2_5]
  by_cases h0 : t.val = 0
  · have h1 : t.val ≠ 15 := by omega
    rw [Dat.leavesExact_idle (dat2 V c) 6 t (idle2_6 t h1) (noFlush2_6 t h1)]
    rw [Dat.leavesExact_idle (dat2 V c) 7 t (idle2_7 t h1) (noFlush2_7 t h1)]
    rw [between2_castSucc V c t, between2_zero V c _ _ h0, rest2, carry2_first V c t h0]
    dsimp only
    iintro ⟨⟨⟨⟨⟨%e0, HS0⟩, ⟨%e1, HS1⟩⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body2_first c Set.univ (grid2.coords t) _ _ _ _ _ _ _ _ _ _ _ _ _ _ _ _ _ _ _ _ ((isFirst2 t).mpr h0) (fun h => h1 ((isLast2 t).mp h)) (iblk2 V c 0 t) (iblk2 V c 1 t) (iblk2 V c 2 t) (iblk2 V c 3 t) (iblk2 V c 4 t) (iblk2 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexists _; iexact HS0
    isplitl [HS1]; · iexists _; iexact HS1
    iintro ⟨H0, H1, H2, H3, H4, H5, H6, H7, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · by_cases h1 : t.val = 15
    · rw [show (dat2 V c).leavesExact 6 t = owns (c : Thread nD τ) (st2_6 t) fullShare ((dat2 V c).after 6 t) from by
    unfold Dat.leavesExact; rw [show cfg2.idle 6 (grid2.coords t) = false from live2_6 t h1], after2_6]
      rw [show (dat2 V c).leavesExact 7 t = owns (c : Thread nD τ) (st2_7 t) fullShare ((dat2 V c).after 7 t) from by
    unfold Dat.leavesExact; rw [show cfg2.idle 7 (grid2.coords t) = false from live2_7 t h1], after2_7]
      rw [between2_castSucc V c t, between2_pos V c _ _ h0, carry2_next V c t h0]
      dsimp only
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body2_last c Set.univ (grid2.coords t) _ _ _ _ _ _ _ _ _ _ _ _ _ _ _ _ _ _ _ _ (fun h => h0 ((isFirst2 t).mp h)) ((isLast2 t).mpr h1) (iblk2 V c 0 t) (iblk2 V c 1 t) (iblk2 V c 2 t) (iblk2 V c 3 t) (iblk2 V c 4 t) (iblk2 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat2 V c) 6 t (idle2_6 t h1) (noFlush2_6 t h1)]
      rw [Dat.leavesExact_idle (dat2 V c) 7 t (idle2_7 t h1) (noFlush2_7 t h1)]
      rw [between2_castSucc V c t, between2_pos V c _ _ h0, carry2_next V c t h0]
      dsimp only
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body2_mid c Set.univ (grid2.coords t) _ _ _ _ _ _ _ _ _ _ _ _ _ _ _ _ _ _ _ _ (fun h => h0 ((isFirst2 t).mp h)) (fun h => h1 ((isLast2 t).mp h)) (iblk2 V c 0 t) (iblk2 V c 1 t) (iblk2 V c 2 t) (iblk2 V c 3 t) (iblk2 V c 4 t) (iblk2 V c 5 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The call's body meets the pipeline's demand at every point. -/
theorem obligation2 (c : Dev nD) : BodyObligation (dat2 (F := F) V c) (defs₀ (F := F)) Variants.none () Set.univ := fun t => by
  rw [bigSep_W2, bigSep_W2, show defs₀ (F := F) .tc cfg2.body (cfg2.bodyArgs t (cfg2.slots t)) = bodyAt2 t from by
    unfold defs₀; rw [Defs.onTc_tc]]
  exact triple_restated (at2 V c t) rfl .rfl fun _ => .rfl

/-- Before the first point the invariant is the launch's. -/
theorem enter2 (c : Dev nD) : (dat2 V c).Φ 0 = Pipeline.ΦA spec2 c := by
  rw [show (dat2 V c).Φ 0 = between2 V c 0 (Nat.zero_le _) from rfl, between2_zero V c 0 _ rfl]

/-- After the last point it gives the launch's back: what the scratch holds is forgotten. -/
theorem leave2 (c : Dev nD) : (dat2 V c).Φ (Fin.last cfg2.N) ⊢ Pipeline.ΦA spec2 c := by
  rw [show (dat2 V c).Φ (Fin.last cfg2.N) = between2 V c cfg2.N (le_refl _) from rfl,
    between2_pos V c _ _ (by have : cfg2.N = 16 := N_2; omega), rest2]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

end Cert.KernelIdeal.Hand

end
-- ==== Proof.KernelIdeal.Region3.lean ====
/- The last call over its grid. -/
module

public import proofs.«01_k».proof.Proof.KernelIdeal.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UR sig nD τ) ℕ

variable (V : (c : Dev nD) → (b : Ref sig .tc) → Buf (Elt F) ((c : Thread nD τ).loc b))

/-- A window's block at a point of the call's grid, cut out of its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the pipeline of the call does with its buffers: the arrays as found, each input's buffer at its block, each
    output's at what the body computes from the blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => k3_pay1 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = k3_pay1 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl)
    (fun t => by rw [after3_5]; unfold Dat.blockOf iblk3; rw [A_eq3]; try rfl) t d).trans
    (by unfold Dat.fetched Dat.blockOf iblk3; rw [A_eq3]; try rfl)

/-- What the body is handed at a point, -/
def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it hands back. -/
def post3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4000000 in
/-- The body at a point, from its blocks. -/
theorem at3 (c : Dev nD) (t : Fin cfg3.N) :
    pre3 V c t ⊢ wp frame (wpE (defs₀ (F := F)) Variants.none c none) Set.univ (bodyAt3 t) (fun _ => post3 V c t) := by
  unfold pre3 post3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl]
  rw [show (dat3 V c).leavesExact 0 t = owns (c : Thread nD τ) (st3_0 t) fullShare ((dat3 V c).after 0 t) from by
    unfold Dat.leavesExact; rw [show cfg3.idle 0 (grid3.coords t) = false from rfl], after3_0]
  rw [show (dat3 V c).leavesExact 1 t = owns (c : Thread nD τ) (st3_1 t) fullShare ((dat3 V c).after 1 t) from by
    unfold Dat.leavesExact; rw [show cfg3.idle 1 (grid3.coords t) = false from rfl], after3_1]
  rw [show (dat3 V c).leavesExact 2 t = owns (c : Thread nD τ) (st3_2 t) fullShare ((dat3 V c).after 2 t) from by
    unfold Dat.leavesExact; rw [show cfg3.idle 2 (grid3.coords t) = false from rfl], after3_2]
  rw [show (dat3 V c).leavesExact 3 t = owns (c : Thread nD τ) (st3_3 t) fullShare ((dat3 V c).after 3 t) from by
    unfold Dat.leavesExact; rw [show cfg3.idle 3 (grid3.coords t) = false from rfl], after3_3]
  rw [show (dat3 V c).leavesExact 4 t = owns (c : Thread nD τ) (st3_4 t) fullShare ((dat3 V c).after 4 t) from by
    unfold Dat.leavesExact; rw [show cfg3.idle 4 (grid3.coords t) = false from rfl], after3_4]
  rw [show (dat3 V c).leavesExact 5 t = owns (c : Thread nD τ) (st3_5 t) fullShare ((dat3 V c).after 5 t) from by
    unfold Dat.leavesExact; rw [show cfg3.idle 5 (grid3.coords t) = false from rfl], after3_5]
  rw [show (dat3 V c).leavesExact 6 t = owns (c : Thread nD τ) (st3_6 t) fullShare ((dat3 V c).after 6 t) from by
    unfold Dat.leavesExact; rw [show cfg3.idle 6 (grid3.coords t) = false from rfl], after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The call's body meets the pipeline's demand at every point. -/
theorem obligation3 (c : Dev nD) : BodyObligation (dat3 (F := F) V c) (defs₀ (F := F)) Variants.none () Set.univ := fun t => by
  rw [bigSep_W3, bigSep_W3, show defs₀ (F := F) .tc cfg3.body (cfg3.bodyArgs t (cfg3.slots t)) = bodyAt3 t from by
    unfold defs₀; rw [Defs.onTc_tc]]
  exact triple_restated (at3 V c t) rfl .rfl fun _ => .rfl

end Cert.KernelIdeal.Hand

end
-- ==== Proof.KernelIdeal.Run.lean ====
/- The four calls and the host stretches between them, run in order. -/
module

public import proofs.«01_k».proof.Proof.KernelIdeal.Region0
public import proofs.«01_k».proof.Proof.KernelIdeal.Region1
public import proofs.«01_k».proof.Proof.KernelIdeal.Region2
public import proofs.«01_k».proof.Proof.KernelIdeal.Region3
public import proofs.«01_k».proof.Proof.Gen.KernelIdeal.Regions
public import Idealize.ShloMosaic.Lib.Pipeline.RegionArrays

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UR sig nD τ) ℕ

variable (m : (g : Loc nD τ sig) → Buf (Elt F) g) (ρ : Dev nD → PrngReg)

/-! ## What the buffers hold between the items of the program -/

/-- The buffers at launch. -/
abbrev U0 (c : Dev nD) : Valuation τ sig (Elt F) := fun b => m ((c : Dev nD), b)
abbrev T0 : (c : Dev nD) → (b : Ref sig .tc) → Buf (Elt F) ((c : Thread nD τ).loc b) := fun c b => U0 m c b
/-- After the first host stretch. -/
def U1 (c : Dev nD) : Valuation τ sig (Elt F) := StableHlo.after hostOps0 (U0 m c)
abbrev T1 : (c : Dev nD) → (b : Ref sig .tc) → Buf (Elt F) ((c : Thread nD τ).loc b) := fun c b => U1 m c b
theorem U1_of (c : Dev nD) (r : Ref sig .tc) (h : r ∉ hostOps0_W) : U1 m c (Proc.devRef .tc r) = U0 m c (Proc.devRef .tc r) :=
  StableHlo.after_of_writes_sub hostOps0 _ hostOps0_writes h
/-- After the first call: its arrays as its pipeline leaves them, the other buffers as they were. -/
def U2 (c : Dev nD) : Valuation τ sig (Elt F) :=
  Pipeline.withArrays spec0 c (U1 m c) fun w => (dat0 (T1 m) c).arrAt w cfg0.N
abbrev T2 : (c : Dev nD) → (b : Ref sig .tc) → Buf (Elt F) ((c : Thread nD τ).loc b) := fun c b => U2 m c b
theorem U2_arr (c : Dev nD) (w : Fin cfg0.W) :
    U2 m c (Proc.devRef .tc (Pipeline.arrRef spec0 w)) = (dat0 (T1 m) c).arrAt w cfg0.N := by
  unfold U2; exact Pipeline.withArrays_arr spec0 launch0.win.arr_inj c _ _ w
theorem U2_ne (c : Dev nD) (b : Ref sig .tc) (hb : ∀ w, Pipeline.arrRef spec0 w ≠ b) :
    U2 m c (Proc.devRef .tc b) = U1 m c (Proc.devRef .tc b) := by
  unfold U2; exact Pipeline.withArrays_of_ne spec0 c _ _ b hb
/-- What the call does not write it leaves: an input's array is never written back. -/
theorem U2_of (c : Dev nD) (r : Ref sig .tc) (h : ∀ w : Fin cfg0.W, Pipeline.arrRef spec0 w = r → (cfg0.win w).isOut = false) :
    U2 m c (Proc.devRef .tc r) = U1 m c (Proc.devRef .tc r) := by
  by_cases hw : ∃ w : Fin cfg0.W, Pipeline.arrRef spec0 w = r
  · obtain ⟨w, rfl⟩ := hw
    exact (U2_arr m c w).trans (((dat0 (T1 m) c).arrAt_in w (h w rfl) _).trans (A_eq0 (T1 m) c w))
  · exact U2_ne m c r fun w e => hw ⟨w, e⟩
/-- After the second host stretch. -/
def U3 (c : Dev nD) : Valuation τ sig (Elt F) := StableHlo.after hostOps1 (U2 m c)
abbrev T3 : (c : Dev nD) → (b : Ref sig .tc) → Buf (Elt F) ((c : Thread nD τ).loc b) := fun c b => U3 m c b
theorem U3_of (c : Dev nD) (r : Ref sig .tc) (h : r ∉ hostOps1_W) : U3 m c (Proc.devRef .tc r) = U2 m c (Proc.devRef .tc r) :=
  StableHlo.after_of_writes_sub hostOps1 _ hostOps1_writes h
/-- After the second call: its arrays as its pipeline leaves them, the other buffers as they were. -/
def U4 (c : Dev nD) : Valuation τ sig (Elt F) :=
  Pipeline.withArrays spec1 c (U3 m c) fun w => (dat1 (T3 m) c).arrAt w cfg1.N
abbrev T4 : (c : Dev nD) → (b : Ref sig .tc) → Buf (Elt F) ((c : Thread nD τ).loc b) := fun c b => U4 m c b
theorem U4_arr (c : Dev nD) (w : Fin cfg1.W) :
    U4 m c (Proc.devRef .tc (Pipeline.arrRef spec1 w)) = (dat1 (T3 m) c).arrAt w cfg1.N := by
  unfold U4; exact Pipeline.withArrays_arr spec1 launch1.win.arr_inj c _ _ w
theorem U4_ne (c : Dev nD) (b : Ref sig .tc) (hb : ∀ w, Pipeline.arrRef spec1 w ≠ b) :
    U4 m c (Proc.devRef .tc b) = U3 m c (Proc.devRef .tc b) := by
  unfold U4; exact Pipeline.withArrays_of_ne spec1 c _ _ b hb
/-- What the call does not write it leaves: an input's array is never written back. -/
theorem U4_of (c : Dev nD) (r : Ref sig .tc) (h : ∀ w : Fin cfg1.W, Pipeline.arrRef spec1 w = r → (cfg1.win w).isOut = false) :
    U4 m c (Proc.devRef .tc r) = U3 m c (Proc.devRef .tc r) := by
  by_cases hw : ∃ w : Fin cfg1.W, Pipeline.arrRef spec1 w = r
  · obtain ⟨w, rfl⟩ := hw
    exact (U4_arr m c w).trans (((dat1 (T3 m) c).arrAt_in w (h w rfl) _).trans (A_eq1 (T3 m) c w))
  · exact U4_ne m c r fun w e => hw ⟨w, e⟩
/-- After the third host stretch. -/
def U5 (c : Dev nD) : Valuation τ sig (Elt F) := StableHlo.after hostOps2 (U4 m c)
abbrev T5 : (c : Dev nD) → (b : Ref sig .tc) → Buf (Elt F) ((c : Thread nD τ).loc b) := fun c b => U5 m c b
theorem U5_of (c : Dev nD) (r : Ref sig .tc) (h : r ∉ hostOps2_W) : U5 m c (Proc.devRef .tc r) = U4 m c (Proc.devRef .tc r) :=
  StableHlo.after_of_writes_sub hostOps2 _ hostOps2_writes h
/-- After the third call: its arrays as its pipeline leaves them, the other buffers as they were. -/
def U6 (c : Dev nD) : Valuation τ sig (Elt F) :=
  Pipeline.withArrays spec2 c (U5 m c) fun w => (dat2 (T5 m) c).arrAt w cfg2.N
abbrev T6 : (c : Dev nD) → (b : Ref sig .tc) → Buf (Elt F) ((c : Thread nD τ).loc b) := fun c b => U6 m c b
theorem U6_arr (c : Dev nD) (w : Fin cfg2.W) :
    U6 m c (Proc.devRef .tc (Pipeline.arrRef spec2 w)) = (dat2 (T5 m) c).arrAt w cfg2.N := by
  unfold U6; exact Pipeline.withArrays_arr spec2 launch2.win.arr_inj c _ _ w
theorem U6_ne (c : Dev nD) (b : Ref sig .tc) (hb : ∀ w, Pipeline.arrRef spec2 w ≠ b) :
    U6 m c (Proc.devRef .tc b) = U5 m c (Proc.devRef .tc b) := by
  unfold U6; exact Pipeline.withArrays_of_ne spec2 c _ _ b hb
/-- What the call does not write it leaves: an input's array is never written back. -/
theorem U6_of (c : Dev nD) (r : Ref sig .tc) (h : ∀ w : Fin cfg2.W, Pipeline.arrRef spec2 w = r → (cfg2.win w).isOut = false) :
    U6 m c (Proc.devRef .tc r) = U5 m c (Proc.devRef .tc r) := by
  by_cases hw : ∃ w : Fin cfg2.W, Pipeline.arrRef spec2 w = r
  · obtain ⟨w, rfl⟩ := hw
    exact (U6_arr m c w).trans (((dat2 (T5 m) c).arrAt_in w (h w rfl) _).trans (A_eq2 (T5 m) c w))
  · exact U6_ne m c r fun w e => hw ⟨w, e⟩
/-- After the last call: its arrays as its pipeline leaves them, the other buffers as they were. -/
def U7 (c : Dev nD) : Valuation τ sig (Elt F) :=
  Pipeline.withArrays spec3 c (U6 m c) fun w => (dat3 (T6 m) c).arrAt w cfg3.N
abbrev T7 : (c : Dev nD) → (b : Ref sig .tc) → Buf (Elt F) ((c : Thread nD τ).loc b) := fun c b => U7 m c b
theorem U7_arr (c : Dev nD) (w : Fin cfg3.W) :
    U7 m c (Proc.devRef .tc (Pipeline.arrRef spec3 w)) = (dat3 (T6 m) c).arrAt w cfg3.N := by
  unfold U7; exact Pipeline.withArrays_arr spec3 launch3.win.arr_inj c _ _ w
theorem U7_ne (c : Dev nD) (b : Ref sig .tc) (hb : ∀ w, Pipeline.arrRef spec3 w ≠ b) :
    U7 m c (Proc.devRef .tc b) = U6 m c (Proc.devRef .tc b) := by
  unfold U7; exact Pipeline.withArrays_of_ne spec3 c _ _ b hb
/-- What the call does not write it leaves: an input's array is never written back. -/
theorem U7_of (c : Dev nD) (r : Ref sig .tc) (h : ∀ w : Fin cfg3.W, Pipeline.arrRef spec3 w = r → (cfg3.win w).isOut = false) :
    U7 m c (Proc.devRef .tc r) = U6 m c (Proc.devRef .tc r) := by
  by_cases hw : ∃ w : Fin cfg3.W, Pipeline.arrRef spec3 w = r
  · obtain ⟨w, rfl⟩ := hw
    exact (U7_arr m c w).trans (((dat3 (T6 m) c).arrAt_in w (h w rfl) _).trans (A_eq3 (T6 m) c w))
  · exact U7_ne m c r fun w e => hw ⟨w, e⟩

/-- The program's arguments. -/
abbrev params : List (Ref sig .tc) := [main_arg0, main_arg1, main_arg2, main_arg3, main_arg4, main_arg5, main_arg6, main_arg7, main_arg8, main_arg9, main_arg10, main_arg11]
theorem par1 : ∀ a ∈ params, a ∉ hostOps0_W := by decide
theorem par2 : ∀ a ∈ params, ∀ w : Fin cfg0.W, Pipeline.arrRef spec0 w = a → (cfg0.win w).isOut = false :=
  ListAll.forall_mem_of_all_decide (by decide +kernel)
theorem par3 : ∀ a ∈ params, a ∉ hostOps1_W := by decide
theorem par4 : ∀ a ∈ params, ∀ w : Fin cfg1.W, Pipeline.arrRef spec1 w = a → (cfg1.win w).isOut = false :=
  ListAll.forall_mem_of_all_decide (by decide +kernel)
theorem par5 : ∀ a ∈ params, a ∉ hostOps2_W := by decide
theorem par6 : ∀ a ∈ params, ∀ w : Fin cfg2.W, Pipeline.arrRef spec2 w = a → (cfg2.win w).isOut = false :=
  ListAll.forall_mem_of_all_decide (by decide +kernel)
theorem par7 : ∀ a ∈ params, ∀ w : Fin cfg3.W, Pipeline.arrRef spec3 w = a → (cfg3.win w).isOut = false :=
  ListAll.forall_mem_of_all_decide (by decide +kernel)
/-- The arguments end as launched. -/
theorem U7_arg (c : Dev nD) (a : Ref sig .tc) (h : a ∈ params) : U7 m c (Proc.devRef .tc a) = m ((c : Thread nD τ).loc a) :=
  (U7_of m c a (par7 a h)).trans <|
  (U6_of m c a (par6 a h)).trans <|
  (U5_of m c a (par5 a h)).trans <|
  (U4_of m c a (par4 a h)).trans <|
  (U3_of m c a (par3 a h)).trans <|
  (U2_of m c a (par2 a h)).trans <|
  (U1_of m c a (par1 a h))

/-! ## The items as segments -/

abbrev tables : (p : Fin 4) → (pcfgs (F := F) p).Adm := fun p => (cfgs p).toPCfg_adm
/-- Each call's pipeline, entered at what the item before leaves. -/
def pipes : (p : Fin 4) → (c : Dev nD) → Dat τ (Elt F) Unit ℕ (UR sig nD τ) ℕ (Pipeline.pin (pcfgs (F := F)) tables p) c
  | ⟨0, _⟩ => fun c => dat0 (T1 m) c
  | ⟨1, _⟩ => fun c => dat1 (T3 m) c
  | ⟨2, _⟩ => fun c => dat2 (T5 m) c
  | ⟨3, _⟩ => fun c => dat3 (T6 m) c
abbrev noLevels : GSem nD τ sig → Finset Unit := fun _ => ∅
abbrev level : GSem nD τ sig → Unit → ℕ := fun _ _ => 0
/-- What goes along beside the buffers: the generator register at some state, and nothing owed. -/
abbrev Aside (c : Dev nD) : sProp 𝕄 := iprop((∃ r, prngReg c r) ∗ ∃ W, owes (c : Thread nD τ) (0 : CellTallies nD τ sig Unit) W)
/-- The state between two items: every unscoped buffer at the contents named. -/
abbrev Held (W : Dev nD → Valuation τ sig (Elt F)) (c : Dev nD) : sProp 𝕄 :=
  StableHlo.held (c : Thread nD τ) (Pipeline.ucRefs τ sig) (W c)

/-- A host stretch from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels level :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Aside

set_option backward.isDefEq.respectTransparency.types false in
/-- A call from the contents `W` to the contents `W'`, for any of the four: its arrays are taken out of the unscoped
    buffers and put back, the generator register goes through the invariant. -/
def call (p : Fin 4) (kit : Pipeline.PLaunchFacts (nD := nD) (τ := τ) (pcfgs (F := F)) p) (hK : (pcfgs (F := F) p).pre.K = 0)
    (hbody : ∀ c, BodyObligation (pipes m p c) (defs₀ (F := F)) Variants.none () Set.univ)
    (howed : ∀ c t, (pipes m p c).owed t = 0) (hrec : ∀ c t, (pipes m p c).bound () t = Set.univ)
    (hq : ∀ c w, (pipes m p c).share w = fullShare)
    (hin : ∀ c, (pipes m p c).Φ 0 = Pipeline.ΦA (pcfgs (F := F) p).spec c)
    (hout : ∀ c, (pipes m p c).Φ (Fin.last _) ⊢ Pipeline.ΦA (pcfgs (F := F) p).spec c)
    (W W' : Dev nD → Valuation τ sig (Elt F))
    (hA : ∀ c w, (pipes m p c).A w = W c (Proc.devRef .tc (Pipeline.arrRef (pcfgs (F := F) p).spec w)))
    (hF : ∀ c w, (pipes m p c).arrAt w (Pipeline.pin (pcfgs (F := F)) tables p).N = W' c (Proc.devRef .tc (Pipeline.arrRef (pcfgs (F := F) p).spec w)))
    (hrest : ∀ c b, b ∉ Finset.univ.image (Pipeline.arrRef (pcfgs (F := F) p).spec) → W' c (Proc.devRef .tc b) = W c (Proc.devRef .tc b)) :
    Pipeline.RegionSeg (pcfgs (F := F)) tables (pipes m) () defs₀ Variants.none noLevels level p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ noLevels level p howed
  pre c := iprop(Held W c ∗ Aside c)
  post c := iprop(Held W' c ∗ Aside c)
  X c := iprop(∃ r, prngReg c r)
  Y c := iprop(∃ r, prngReg c r)
  Z c := Pipeline.unscopedRest (Ix := Unit) (Name := ℕ) (U := UR sig nD τ) (Lvl := ℕ) (pcfgs (F := F) p).spec c fun b => W c b
  hentry c := by
    rw [Pipeline.ownSems0_none, Pipeline.prefHeld_of_none _ hK]
    have cut := Pipeline.arrays_of_unscopedBufs (p := p) (pcfgs (F := F)) tables (pipes m) kit.win kit.arr_whole c
      (hq c) (fun b => W c b) (hA c)
    rw [Pipeline.unscopedBufs_held] at cut
    iintro ⟨⟨Hu, Hg, HO⟩, -, -⟩
    ihave H := cut $$ Hu
    icases H with ⟨Ha, Hz⟩
    imodintro
    isplitl [Ha]; · iexact Ha
    isplitr; · iempintro
    isplitl [HO]
    · unfold Pipeline.Dat.owesAt Pipeline.owesWithin
      rw [howed c 0, hrec c]
      icases HO with ⟨%S, HO⟩; iexists S; isplitr; · ipureintro; exact fun _ _ => trivial
      iexact HO
    isplitl [Hg]; · iexact Hg
    iexact Hz
  hin c := by
    rw [hin c]; unfold Pipeline.ΦA
    iintro ⟨Hg, -, Hr⟩
    isplitl [Hr]; · iexact Hr
    iexact Hg
  hout c := by
    rw [Pipeline.ownSems0_none]
    refine (hout c).trans ?_
    unfold Pipeline.ΦA
    iintro ⟨Hr, Hg⟩
    isplitl [Hg]; · iexact Hg
    isplitr; · iempintro
    iexact Hr
  hexit c := by
    have join := Pipeline.unscopedBufs_of_arrays (p := p) (pcfgs (F := F)) tables (Ix := Unit) (Name := ℕ) (U := UR sig nD τ) (Lvl := ℕ)
      kit.win kit.arr_whole c (pipes m) (hq c) (fun b => W c b) (fun b => W' c b)
      ((pipes m p c).arrAt · (Pipeline.pin (pcfgs (F := F)) tables p).N) (hF c) (hrest c)
    rw [Pipeline.unscopedBufs_held] at join
    iintro ⟨Ha, HO, Hg, Hz⟩
    imodintro
    isplitl [Ha Hz]
    · iapply join; isplitl [Ha] <;> iassumption
    isplitl [Hg]; · iexact Hg
    unfold Pipeline.Dat.owesAt Pipeline.owesWithin
    rw [howed c (Fin.last _)]
    icases HO with ⟨%S, -, HO⟩; iexists S; iexact HO

set_option backward.isDefEq.respectTransparency.types false in
/-- Call 0. -/
def call0 : Pipeline.RegionSeg (pcfgs (F := F)) tables (pipes m) () defs₀ Variants.none noLevels level 0 :=
  call m 0 launch0.toP rfl (fun c => obligation0 (T1 m) c) (fun _ _ => rfl) (fun _ _ => Set.eq_univ_of_forall fun _ => Or.inl trivial)
    (fun c => (pipes m 0 c).share_full fun _ => rfl) (fun c => rfl) (fun c => .rfl) (U1 m) (U2 m)
    (fun c w => A_eq0 (T1 m) c w) (fun c w => (U2_arr m c w).symm)
    (fun c b hb => U2_ne m c b fun w e => hb (Finset.mem_image.mpr ⟨w, Finset.mem_univ _, e⟩))
set_option backward.isDefEq.respectTransparency.types false in
/-- Call 1. -/
def call1 : Pipeline.RegionSeg (pcfgs (F := F)) tables (pipes m) () defs₀ Variants.none noLevels level 1 :=
  call m 1 launch1.toP rfl (fun c => obligation1 (T3 m) c) (fun _ _ => rfl) (fun _ _ => Set.eq_univ_of_forall fun _ => Or.inl trivial)
    (fun c => (pipes m 1 c).share_full fun _ => rfl) (fun c => enter1 (T3 m) c) (fun c => leave1 (T3 m) c) (U3 m) (U4 m)
    (fun c w => A_eq1 (T3 m) c w) (fun c w => (U4_arr m c w).symm)
    (fun c b hb => U4_ne m c b fun w e => hb (Finset.mem_image.mpr ⟨w, Finset.mem_univ _, e⟩))
set_option backward.isDefEq.respectTransparency.types false in
/-- Call 2. -/
def call2 : Pipeline.RegionSeg (pcfgs (F := F)) tables (pipes m) () defs₀ Variants.none noLevels level 2 :=
  call m 2 launch2.toP rfl (fun c => obligation2 (T5 m) c) (fun _ _ => rfl) (fun _ _ => Set.eq_univ_of_forall fun _ => Or.inl trivial)
    (fun c => (pipes m 2 c).share_full fun _ => rfl) (fun c => enter2 (T5 m) c) (fun c => leave2 (T5 m) c) (U5 m) (U6 m)
    (fun c w => A_eq2 (T5 m) c w) (fun c w => (U6_arr m c w).symm)
    (fun c b hb => U6_ne m c b fun w e => hb (Finset.mem_image.mpr ⟨w, Finset.mem_univ _, e⟩))
set_option backward.isDefEq.respectTransparency.types false in
/-- Call 3. -/
def call3 : Pipeline.RegionSeg (pcfgs (F := F)) tables (pipes m) () defs₀ Variants.none noLevels level 3 :=
  call m 3 launch3.toP rfl (fun c => obligation3 (T6 m) c) (fun _ _ => rfl) (fun _ _ => Set.eq_univ_of_forall fun _ => Or.inl trivial)
    (fun c => (pipes m 3 c).share_full fun _ => rfl) (fun c => rfl) (fun c => .rfl) (U6 m) (U7 m)
    (fun c w => A_eq3 (T6 m) c w) (fun c w => (U7_arr m c w).symm)
    (fun c b hb => U7_ne m c b fun w e => hb (Finset.mem_image.mpr ⟨w, Finset.mem_univ _, e⟩))

/-- The program's seven items in order. -/
abbrev items : List (Pipeline.Seg (pcfgs (F := F)) tables (pipes m) () defs₀ Variants.none noLevels level) :=
  [.host (stretch hostOps0 hostOps0_sub hostOps0_fresh (U0 m)),
   .region (call0 m),
   .host (stretch hostOps1 hostOps1_sub hostOps1_fresh (U2 m)),
   .region (call1 m),
   .host (stretch hostOps2 hostOps2_sub hostOps2_fresh (U4 m)),
   .region (call2 m),
   .region (call3 m)]
theorem main_items (c : Dev nD) : main (F := F) c = Pipeline.Seg.run (items m) := (main_chain c).trans (by chain_rfl)

theorem all_scoped : ∀ sm : SemLoc sig, sm.isScoped .tc = true := by decide
theorem held_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The whole run: it ends, faults nowhere, and leaves every unscoped buffer at the last contents, every counter at zero. -/
theorem whole_run : θ_run defs (onTc (τ := τ) (main (F := F))) ⟨m, fun _ => 0, ρ⟩ (fun r =>
    (∀ c : Dev nD, ∀ b ∈ Pipeline.ucRefs τ sig, r.2.mem (((c : Thread nD τ)).1, b) = U7 m c b) ∧ r.2.sem = fun _ => 0) :=
  Pipeline.θ_run_regions_kit_sems (pcfgs (F := F)) tables (pipes m) () cellOf_inj emb₁ defs₀ Variants.none noLevels level m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(Held (U0 m) c ∗ Aside c)) (Tₙ := fun c => iprop(Held (U7 m) c ∗ ∃ r, prngReg c r))
    (hch := ⟨fun _ => .rfl, fun _ => .rfl, fun _ => .rfl, fun _ => .rfl, fun _ => .rfl, fun _ => .rfl, fun _ => .rfl, fun c => by
      refine (show _ ⊢ iprop(Held (U7 m) c ∗ Aside c) from .rfl).trans ?_
      iintro ⟨Hh, Hg, HO⟩
      isplitl [Hh Hg]
      · isplitl [Hh]; · iexact Hh
        iexact Hg
      iexact HO⟩)
    (hinit := by
      refine Pipeline.initEach noLevels level fun c => ?_
      rw [show unscopedBufs c (fun b => m ((c : Thread nD τ).loc b)) = Held (U0 m) c from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U7 m c b)
    (hfin := fun c s' => by
      iintro ⟨⟨Hh, -⟩, HSI⟩
      unfold Held StableHlo.held
      imodintro
      iapply (pointsTo_read_all (Pipeline.ucRefs τ sig) (fun b => (((c : Thread nD τ)).1, b)) (U7 m c) s')
      isplitl [Hh] <;> iassumption)
    (hQ := fun s h hz => ⟨h, funext fun g => hz g (.inr (all_scoped g.2))⟩)

/-- The arguments as launched and the counters at zero. -/
theorem args_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c =>
    ⟨(h.1 c _ (held_mem main_arg0 (by decide))).trans (U7_arg m c main_arg0 (by decide)),
    (h.1 c _ (held_mem main_arg1 (by decide))).trans (U7_arg m c main_arg1 (by decide)),
    (h.1 c _ (held_mem main_arg2 (by decide))).trans (U7_arg m c main_arg2 (by decide)),
    (h.1 c _ (held_mem main_arg3 (by decide))).trans (U7_arg m c main_arg3 (by decide)),
    (h.1 c _ (held_mem main_arg4 (by decide))).trans (U7_arg m c main_arg4 (by decide)),
    (h.1 c _ (held_mem main_arg5 (by decide))).trans (U7_arg m c main_arg5 (by decide)),
    (h.1 c _ (held_mem main_arg6 (by decide))).trans (U7_arg m c main_arg6 (by decide)),
    (h.1 c _ (held_mem main_arg7 (by decide))).trans (U7_arg m c main_arg7 (by decide)),
    (h.1 c _ (held_mem main_arg8 (by decide))).trans (U7_arg m c main_arg8 (by decide)),
    (h.1 c _ (held_mem main_arg9 (by decide))).trans (U7_arg m c main_arg9 (by decide)),
    (h.1 c _ (held_mem main_arg10 (by decide))).trans (U7_arg m c main_arg10 (by decide)),
    (h.1 c _ (held_mem main_arg11 (by decide))).trans (U7_arg m c main_arg11 (by decide))⟩, h.2⟩) (whole_run m ρ)

/-- The result at the last contents, the arguments as launched. -/
theorem result_kept : θ_run defs (onTc (τ := τ) (main (F := F))) ⟨m, fun _ => 0, ρ⟩ (fun r => ∀ c : Dev nD,
      r.2.mem ((c.tc : Thread nD τ).loc main_v11) = U7 m c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h.1 c _ (held_mem main_v11 (by decide)),
    (h.1 c _ (held_mem main_arg0 (by decide))).trans (U7_arg m c main_arg0 (by decide)),
    (h.1 c _ (held_mem main_arg1 (by decide))).trans (U7_arg m c main_arg1 (by decide)),
    (h.1 c _ (held_mem main_arg2 (by decide))).trans (U7_arg m c main_arg2 (by decide)),
    (h.1 c _ (held_mem main_arg3 (by decide))).trans (U7_arg m c main_arg3 (by decide)),
    (h.1 c _ (held_mem main_arg4 (by decide))).trans (U7_arg m c main_arg4 (by decide)),
    (h.1 c _ (held_mem main_arg5 (by decide))).trans (U7_arg m c main_arg5 (by decide)),
    (h.1 c _ (held_mem main_arg6 (by decide))).trans (U7_arg m c main_arg6 (by decide)),
    (h.1 c _ (held_mem main_arg7 (by decide))).trans (U7_arg m c main_arg7 (by decide)),
    (h.1 c _ (held_mem main_arg8 (by decide))).trans (U7_arg m c main_arg8 (by decide)),
    (h.1 c _ (held_mem main_arg9 (by decide))).trans (U7_arg m c main_arg9 (by decide)),
    (h.1 c _ (held_mem main_arg10 (by decide))).trans (U7_arg m c main_arg10 (by decide)),
    (h.1 c _ (held_mem main_arg11 (by decide))).trans (U7_arg m c main_arg11 (by decide))⟩) (whole_run m ρ)

end Cert.KernelIdeal.Hand

end
-- ==== Proof.Frames.lean ====
/- The frames of the three programs and the statement about the named constant.

   A frame says of a program that every run of it ends, leaves its twelve arguments as they were and brings
   every semaphore counter back to zero. The two kernel programs' frames are their whole runs
   (`Kernel/Run.lean`, `KernelIdeal/Run.lean`). The reference is a straight line of host operations: its run
   names the arguments, and the counters are zero because the program has none. -/
module

public import proofs.«01_k».proof.Defs
public import proofs.«01_k».proof.Proof.Kernel.Run
public import proofs.«01_k».proof.Proof.KernelIdeal.Run
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel as printed, on bit patterns. -/
theorem frame_kernel : Cert.quiescent_Kernel := fun m g _ =>
  Cert.Kernel.Hand.args_kept (F := Bits) m g

/-- The idealized kernel, on extended reals. -/
theorem frame_ideal : Cert.quiescent_KernelIdeal := fun m g _ =>
  Cert.KernelIdeal.Hand.args_kept (F := Ideal) m g

/-- The idealized reference, on extended reals. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- The mask constant is `+∞` in the idealized kernel, wherever it is printed. -/
theorem mask_named : Cert.preserves_Kernel_KernelIdeal :=
  IdealRules.named_const.statement _ "mask" .f32 0x7149F2CA#32 ⊤ rfl

end Cert.Proof

end
-- ==== Proof.Value.Pick.lean ====
/- The three nearest neighbours, as the order of a list.

   `pick d` lists the first three positions of a stable sort of the distances `d`, nearest first. Since the
   sort is stable, equal distances keep the order of their positions; `IsFirst d S p` says that of the
   positions outside `S` the position `p` is the one that comes first so, and the three picks are the first
   positions outside what was picked before (`pick_first0`, `pick_first1`, `pick_first2`). -/
module

public import Idealize.ShloMosaic.PureOps
public import Idealize.ShloMosaic.Lib.SortFacts
public import Mathlib.Data.Real.Basic

@[expose] public section

noncomputable section

namespace Cert.Spec

open Idealize.ShloMosaic

/-- Position `a` is nearer than position `b`. -/
def nearer (d : Fin 1024 → ℝ) (a b : Fin 1024) : Bool := decide (d a < d b)

/-- Position `a` is nearer than `b`, or as near and of lower number. -/
def ahead (d : Fin 1024 → ℝ) (a b : Fin 1024) : Bool := decide (d a < d b ∨ (d a = d b ∧ a < b))

/-- The `j`-th nearest position. -/
@[irreducible] def pick (d : Fin 1024 → ℝ) (j : Fin 3) : Fin 1024 := sortedFrom (nearer d) ⟨j.val, j.isLt.trans (by decide)⟩

theorem pick_eq (d : Fin 1024 → ℝ) (j : Fin 3) : pick d j = sortedFrom (nearer d) ⟨j.val, j.isLt.trans (by decide)⟩ := by
  unfold pick; exact congrArg _ (Eq.refl _)

/-- Of the positions outside `S` the position `p` comes first. -/
structure IsFirst (d : Fin 1024 → ℝ) (S : Finset (Fin 1024)) (p : Fin 1024) : Prop where
  out : p ∉ S
  le : ∀ m, m ∉ S → d p ≤ d m
  pos : ∀ m, m ∉ S → d m = d p → p ≤ m

/-- Into a list of later positions an element is inserted at the same place under either order. -/
theorem insert_same (d : Fin 1024 → ℝ) (a : Fin 1024) (l : List (Fin 1024)) (h : ∀ b ∈ l, a < b) :
    insertBefore (nearer d) a l = insertBefore (ahead d) a l := by
  induction l with
  | nil => rfl
  | cons b l ih =>
    have hab : a < b := h b (by simp)
    have e : nearer d b a = ahead d b a := by
      simp only [nearer, ahead, decide_eq_decide]
      constructor
      · exact Or.inl
      · rintro (h1 | ⟨_, h2⟩)
        · exact h1
        · exact absurd hab (not_lt.mpr h2.le)
    unfold insertBefore
    rw [e, ih fun c hc => h c (List.mem_cons_of_mem _ hc)]

/-- So an increasing list sorts alike under both. -/
theorem sort_same (d : Fin 1024 → ℝ) (l : List (Fin 1024)) (h : l.Pairwise (· < ·)) :
    stableSort (nearer d) l = stableSort (ahead d) l := by
  induction l with
  | nil => rfl
  | cons a l ih =>
    rw [List.pairwise_cons] at h
    unfold stableSort
    rw [ih h.2]
    refine insert_same d a _ fun b hb => h.1 b ?_
    exact (perm_stableSort (ahead d) l).mem_iff.mp hb

/-- Equal lists have equal entries. -/
theorem get_same {l l' : List (Fin 1024)} (e : l = l') (h : l.length = 1024) (h' : l'.length = 1024)
    (k : Fin 1024) : l.get (k.cast h.symm) = l'.get (k.cast h'.symm) := by
  subst e; rfl

/-- The stable sort by distance is the sort by distance and then by number. -/
theorem sorted_same (d : Fin 1024 → ℝ) (k : Fin 1024) : sortedFrom (nearer d) k = sortedFrom (ahead d) k := by
  have e : sortPositions 1024 (nearer d) = sortPositions 1024 (ahead d) :=
    sort_same d _ (List.pairwise_lt_finRange 1024)
  unfold sortedFrom
  exact get_same e (length_sortPositions _ _) (length_sortPositions _ _) k

theorem ahead_asymm (d : Fin 1024 → ℝ) (a b : Fin 1024) (h : ahead d a b = true) : ahead d b a = false := by
  simp only [ahead, decide_eq_true_eq, decide_eq_false_iff_not, not_or, not_and] at h ⊢
  rcases h with h | ⟨h, h'⟩
  · exact ⟨not_lt.mpr h.le, fun e => absurd e h.ne'⟩
  · exact ⟨by rw [h]; exact lt_irrefl _, fun _ => not_lt.mpr h'.le⟩

theorem not_ahead_iff (d : Fin 1024 → ℝ) (a b : Fin 1024) :
    ahead d a b = false ↔ d b < d a ∨ (d b = d a ∧ b ≤ a) := by
  simp only [ahead, decide_eq_false_iff_not, not_or, not_and, not_lt]
  constructor
  · rintro ⟨h1, h2⟩
    rcases h1.lt_or_eq with h | h
    · exact Or.inl h
    · exact Or.inr ⟨h, h2 h.symm⟩
  · rintro (h | ⟨h1, h2⟩)
    · exact ⟨h.le, fun e => absurd e h.ne'⟩
    · exact ⟨h1.le, fun _ => h2⟩

/-- No later position of the sort is ahead of an earlier one. -/
theorem sorted_order (d : Fin 1024 → ℝ) (i j : Fin 1024) (hij : i < j) :
    ahead d (sortedFrom (ahead d) j) (sortedFrom (ahead d) i) = false :=
  sortedFrom_noInversion (ahead d) (ahead d) (ahead_asymm d) (fun _ _ h => h)
    (fun a b c h1 h2 => by
      rw [not_ahead_iff] at h1 h2 ⊢
      rcases h1 with h1 | ⟨h1, h1'⟩ <;> rcases h2 with h2 | ⟨h2, h2'⟩
      · exact Or.inl (h2.trans h1)
      · exact Or.inl (h2 ▸ h1)
      · exact Or.inl (h1 ▸ h2)
      · exact Or.inr ⟨h2.trans h1, h2'.trans h1'⟩) i j hij

/-- The position of the sort at `k` comes first outside the positions before it. -/
theorem first_of_sorted (d : Fin 1024 → ℝ) (k : Fin 1024) (S : Finset (Fin 1024))
    (hS : ∀ m, m ∈ S ↔ ∃ i, i < k ∧ sortedFrom (nearer d) i = m) : IsFirst d S (sortedFrom (nearer d) k) := by
  have hlater : ∀ m, m ∉ S → ahead d m (sortedFrom (nearer d) k) = false := fun m hm => by
    obtain ⟨i, rfl⟩ := sortedFrom_surjective (nearer d) m
    have hik : k ≤ i := by
      by_contra hlt
      exact hm ((hS _).mpr ⟨i, not_le.mp hlt, rfl⟩)
    rcases hik.lt_or_eq with h | h
    · rw [sorted_same, sorted_same]; exact sorted_order d k i h
    · subst h; rw [not_ahead_iff]; exact Or.inr ⟨rfl, le_rfl⟩
  refine ⟨fun h => ?_, fun m hm => ?_, fun m hm e => ?_⟩
  · obtain ⟨i, hi, e⟩ := (hS _).mp h
    exact absurd (sortedFrom_injective _ e) hi.ne
  · rcases (not_ahead_iff d _ _).mp (hlater m hm) with h | ⟨h, _⟩
    · exact h.le
    · exact h.le
  · rcases (not_ahead_iff d _ _).mp (hlater m hm) with h | ⟨_, h⟩
    · exact absurd e h.ne'
    · exact h

/-- The `j`-th pick comes first outside the picks before it. -/
theorem pick_first (d : Fin 1024 → ℝ) (j : Fin 3) :
    IsFirst d ((Finset.univ.filter (· < j)).image (pick d)) (pick d j) := by
  rw [pick_eq]
  refine first_of_sorted d _ _ fun m => ?_
  rw [Finset.mem_image]
  constructor
  · rintro ⟨i, hi, e⟩
    rw [pick_eq] at e
    exact ⟨_, (Finset.mem_filter.mp hi).2, e⟩
  · rintro ⟨i, hi, e⟩
    have hij : i.val < j.val := hi
    refine ⟨⟨i.val, hij.trans j.isLt⟩, Finset.mem_filter.mpr ⟨Finset.mem_univ _, hij⟩, ?_⟩
    rw [pick_eq]
    exact e

theorem pick_first0 (d : Fin 1024 → ℝ) : IsFirst d ∅ (pick d 0) := by
  have e := pick_first d 0
  rwa [show (Finset.univ.filter (· < (0 : Fin 3))) = ∅ by decide, Finset.image_empty] at e

theorem pick_first1 (d : Fin 1024 → ℝ) : IsFirst d {pick d 0} (pick d 1) := by
  have e := pick_first d 1
  rwa [show (Finset.univ.filter (· < (1 : Fin 3))) = {0} by decide, Finset.image_singleton] at e

theorem pick_first2 (d : Fin 1024 → ℝ) : IsFirst d {pick d 0, pick d 1} (pick d 2) := by
  have e := pick_first d 2
  rwa [show (Finset.univ.filter (· < (2 : Fin 3))) = {0, 1} by decide, Finset.image_insert,
    Finset.image_singleton] at e

end Cert.Spec

end
-- ==== Proof.Value.Net.lean ====
/- The mathematics that both programs compute, over the real numbers.

   `Data` holds the arguments as real arrays (the last layer's shift alone may be infinite). From them: the
   squared distances `dist`, the weights `wt` of the three nearest points, the first layer's values `y1`, the
   mean and the variance of a channel over all batches and points, the normalised and clipped first layer `h`,
   the second layer's values `z`, and the result `out`. Below them the identities that join the kernel's way
   of computing a variance (from running sums) to the textbook's. -/
module

public import proofs.«01_k».proof.Proof.Value.Pick
public import Mathlib.Analysis.SpecialFunctions.Pow.Real
public import Mathlib.Data.EReal.Operations

@[expose] public section

noncomputable section

namespace Cert.Spec

/-- The arguments. -/
structure Data where
  u : Fin 16 → Fin 4096 → Fin 3 → ℝ
  k : Fin 16 → Fin 1024 → Fin 3 → ℝ
  uf : Fin 16 → Fin 256 → Fin 4096 → ℝ
  kf : Fin 16 → Fin 512 → Fin 1024 → ℝ
  W1 : Fin 256 → Fin 768 → ℝ
  b1 : Fin 256 → ℝ
  g1 : Fin 256 → ℝ
  be1 : Fin 256 → ℝ
  W2 : Fin 256 → Fin 256 → ℝ
  b2 : Fin 256 → ℝ
  g2 : Fin 256 → ℝ
  be2 : Fin 256 → EReal

/-- What is added to a distance before its reciprocal is taken. -/
def epsD : ℝ := 11258999 * 2 ^ (-50 : ℤ)
/-- What is added to a variance before its root is taken. -/
def epsB : ℝ := 10995116 * 2 ^ (-40 : ℤ)

theorem epsD_pos : 0 < epsD := by unfold epsD; positivity
theorem epsB_pos : 0 < epsB := by unfold epsB; positivity

variable (X : Data)

/-- Squared distance of query point `n` and known point `m` in batch `b`. -/
def dist (b : Fin 16) (n : Fin 4096) (m : Fin 1024) : ℝ :=
  ((∑ d, X.u b n d * X.u b n d) + ∑ d, X.k b m d * X.k b m d) - 2 * ∑ d, X.u b n d * X.k b m d

theorem dist_nonneg (b : Fin 16) (n : Fin 4096) (m : Fin 1024) : 0 ≤ dist X b n m := by
  unfold dist
  simp only [Fin.sum_univ_three]
  nlinarith [sq_nonneg (X.u b n 0 - X.k b m 0), sq_nonneg (X.u b n 1 - X.k b m 1), sq_nonneg (X.u b n 2 - X.k b m 2)]

/-- The known point that is the `j`-th nearest. -/
def near (b : Fin 16) (n : Fin 4096) (j : Fin 3) : Fin 1024 := pick (dist X b n) j

/-- The reciprocal of its distance. -/
def recip (b : Fin 16) (n : Fin 4096) (j : Fin 3) : ℝ := 1 / (dist X b n (near X b n j) + epsD)

theorem shifted_pos (b : Fin 16) (n : Fin 4096) (m : Fin 1024) : 0 < dist X b n m + epsD :=
  add_pos_of_nonneg_of_pos (dist_nonneg X b n m) epsD_pos

theorem recip_pos (b : Fin 16) (n : Fin 4096) (j : Fin 3) : 0 < recip X b n j :=
  one_div_pos.mpr (shifted_pos X b n _)

/-- The sum of the three reciprocals. -/
def norm (b : Fin 16) (n : Fin 4096) : ℝ := ∑ j, recip X b n j

theorem norm_pos (b : Fin 16) (n : Fin 4096) : 0 < norm X b n :=
  Finset.sum_pos (fun j _ => recip_pos X b n j) ⟨0, Finset.mem_univ _⟩

/-- The weight of the `j`-th nearest point. -/
def wt (b : Fin 16) (n : Fin 4096) (j : Fin 3) : ℝ := recip X b n j / norm X b n

/-- The feature `c` interpolated at query point `n`. -/
def interp (b : Fin 16) (c : Fin 512) (n : Fin 4096) : ℝ := ∑ j, X.kf b c (near X b n j) * wt X b n j

/-- The column of the first weight matrix that meets interpolated feature `c`. -/
abbrev colA (c : Fin 512) : Fin 768 := ⟨c.val, by omega⟩
/-- The column that meets the query points' own feature `c`. -/
abbrev colB (c : Fin 256) : Fin 768 := ⟨512 + c.val, by omega⟩

/-- The first layer's values. -/
def y1 (b : Fin 16) (o : Fin 256) (n : Fin 4096) : ℝ :=
  ((∑ c, X.W1 o (colA c) * interp X b c n) + ∑ c, X.W1 o (colB c) * X.uf b c n) + X.b1 o

/-- The sum of an array over batches and points, at a channel. -/
def tot (f : Fin 16 → Fin 4096 → ℝ) : ℝ := ∑ b, ∑ n, f b n

def mean (f : Fin 16 → Fin 4096 → ℝ) : ℝ := tot f / 65536

def var (f : Fin 16 → Fin 4096 → ℝ) : ℝ := tot (fun b n => (f b n - mean f) * (f b n - mean f)) / 65536

theorem tot_add (f g : Fin 16 → Fin 4096 → ℝ) : tot (fun b n => f b n + g b n) = tot f + tot g := by
  simp only [tot, Finset.sum_add_distrib]

theorem tot_mul (a : ℝ) (f : Fin 16 → Fin 4096 → ℝ) : tot (fun b n => a * f b n) = a * tot f := by
  simp only [tot, Finset.mul_sum]

theorem tot_const (a : ℝ) : tot (fun _ _ => a) = 65536 * a := by
  simp only [tot, Finset.sum_const, Finset.card_univ, Fintype.card_fin, nsmul_eq_mul]
  push_cast; ring

theorem tot_sum {ι : Type} [Fintype ι] (f : ι → Fin 16 → Fin 4096 → ℝ) :
    tot (fun b n => ∑ i, f i b n) = ∑ i, tot (f i) := by
  simp only [tot]
  exact (Finset.sum_congr rfl fun b _ => Finset.sum_comm).trans Finset.sum_comm

/-- The variance from the running sums of the values and of their squares. -/
theorem var_eq (f : Fin 16 → Fin 4096 → ℝ) :
    tot (fun b n => f b n * f b n) * (1 / 65536) - (tot f * (1 / 65536)) * (tot f * (1 / 65536)) = var f := by
  have e : tot (fun b n => (f b n - mean f) * (f b n - mean f))
      = tot (fun b n => f b n * f b n) + ((-2 * mean f) * tot f + 65536 * (mean f * mean f)) := by
    rw [← tot_mul, ← tot_const, ← tot_add, ← tot_add]
    unfold tot
    refine Finset.sum_congr rfl fun b _ => Finset.sum_congr rfl fun n _ => ?_
    ring
  rw [var, e, mean]
  ring

theorem var_nonneg (f : Fin 16 → Fin 4096 → ℝ) : 0 ≤ var f :=
  div_nonneg (Finset.sum_nonneg fun b _ => Finset.sum_nonneg fun n _ => mul_self_nonneg _) (by norm_num)

/-- A constant added to every value moves the mean and leaves the variance. -/
theorem mean_add (f : Fin 16 → Fin 4096 → ℝ) (a : ℝ) : mean (fun b n => f b n + a) = mean f + a := by
  rw [mean, tot_add, tot_const, mean]; ring

theorem var_add (f : Fin 16 → Fin 4096 → ℝ) (a : ℝ) : var (fun b n => f b n + a) = var f := by
  rw [var, mean_add, var]
  congr 2
  funext b n
  ring

/-- The root that a channel is divided by. -/
def dev (f : Fin 16 → Fin 4096 → ℝ) : ℝ := Real.sqrt (var f + epsB)

theorem var_eps_pos (f : Fin 16 → Fin 4096 → ℝ) : 0 < var f + epsB :=
  add_pos_of_nonneg_of_pos (var_nonneg f) epsB_pos

theorem dev_pos (f : Fin 16 → Fin 4096 → ℝ) : 0 < dev f := Real.sqrt_pos.mpr (var_eps_pos f)

/-- The first layer, normalised and clipped. -/
def h (b : Fin 16) (o : Fin 256) (n : Fin 4096) : ℝ :=
  max (X.g1 o * ((y1 X b o n - mean fun b n => y1 X b o n) / dev fun b n => y1 X b o n) + X.be1 o) 0

/-- The second layer's values without their shift. -/
def z (b : Fin 16) (o : Fin 256) (n : Fin 4096) : ℝ := ∑ c, X.W2 o c * h X b c n

/-- The result. -/
def out (b : Fin 16) (o : Fin 256) (n : Fin 4096) : EReal :=
  max (((X.g2 o * (((z X b o n + X.b2 o) - mean fun b n => z X b o n + X.b2 o) / dev fun b n => z X b o n + X.b2 o) : ℝ) : EReal)
    + X.be2 o) 0

/-! ## The kernel's forms -/

/-- The first layer's scale and shift. -/
def sc1 (o : Fin 256) : ℝ := X.g1 o * (dev fun b n => y1 X b o n)⁻¹
def sh1 (o : Fin 256) : ℝ := X.be1 o - sc1 X o * (tot (fun b n => y1 X b o n) * (1 / 65536))

theorem h_eq (b : Fin 16) (o : Fin 256) (n : Fin 4096) : max (y1 X b o n * sc1 X o + sh1 X o) 0 = h X b o n := by
  unfold h sh1 sc1 mean
  congr 1
  ring

/-- The mean of the second layer's values, from the sums of the first. -/
def p (o : Fin 256) : ℝ := ∑ c, X.W2 o c * (tot (fun b n => h X b c n) * (1 / 65536))

theorem p_eq (o : Fin 256) : p X o = mean fun b n => z X b o n := by
  unfold p mean z
  rw [tot_sum (fun c b n => X.W2 o c * h X b c n), eq_div_iff (by norm_num : (65536 : ℝ) ≠ 0), Finset.sum_mul]
  refine Finset.sum_congr rfl fun c _ => ?_
  rw [tot_mul]; ring

/-- The sum over the products of the first layer's channels gives the second layer's squares. -/
theorem q_eq (o : Fin 256) :
    (∑ c, (∑ c', X.W2 o c' * (tot (fun b n => h X b c' n * h X b c n) * (1 / 65536))) * X.W2 o c)
      = tot (fun b n => z X b o n * z X b o n) * (1 / 65536) := by
  have e : (fun b n => z X b o n * z X b o n)
      = fun b n => ∑ c, ∑ c', (X.W2 o c' * X.W2 o c) * (h X b c' n * h X b c n) := by
    funext b n
    unfold z
    rw [Finset.sum_mul_sum, Finset.sum_comm]
    refine Finset.sum_congr rfl fun c _ => Finset.sum_congr rfl fun c' _ => ?_
    ring
  rw [e, tot_sum (fun c b n => ∑ c', (X.W2 o c' * X.W2 o c) * (h X b c' n * h X b c n)), Finset.sum_mul]
  refine Finset.sum_congr rfl fun c _ => ?_
  rw [tot_sum (fun c' b n => (X.W2 o c' * X.W2 o c) * (h X b c' n * h X b c n)), Finset.sum_mul, Finset.sum_mul]
  refine Finset.sum_congr rfl fun c' _ => ?_
  rw [tot_mul]; ring

/-- The second layer's variance from them. -/
theorem var2_eq (o : Fin 256) :
    (∑ c, (∑ c', X.W2 o c' * (tot (fun b n => h X b c' n * h X b c n) * (1 / 65536))) * X.W2 o c) - p X o * p X o
      = var fun b n => z X b o n := by
  rw [q_eq, p_eq, mean, ← var_eq]; ring

/-- The second layer's scale and shift. -/
def sc2 (o : Fin 256) : ℝ := X.g2 o * (dev fun b n => z X b o n)⁻¹
def sh2 (o : Fin 256) : EReal := X.be2 o - ((sc2 X o * p X o : ℝ) : EReal)

/-- A real, a difference and a shift that may be infinite, in either order. -/
theorem shift_swap (a b : ℝ) (e : EReal) : (a : EReal) + (e - (b : EReal)) = ((a - b : ℝ) : EReal) + e := by
  induction e with
  | bot => simp
  | top => rw [EReal.top_sub_coe, EReal.coe_add_top, EReal.coe_add_top]
  | coe e => norm_cast; ring

theorem out_eq (b : Fin 16) (o : Fin 256) (n : Fin 4096) :
    max (((sc2 X o * z X b o n : ℝ) : EReal) + sh2 X o) 0 = out X b o n := by
  unfold sh2 out
  rw [shift_swap, mean_add]
  congr 3
  have e : dev (fun b n => z X b o n + X.b2 o) = dev fun b n => z X b o n := by
    unfold dev; rw [var_add]
  rw [e, sc2, p_eq]
  ring

/-! ## Sums of reals as sums of extended reals -/

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

end Cert.Spec

end
-- ==== Proof.Value.Ops.lean ====
/- Operations on arrays of reals, read at an index.

   An array of extended reals whose entries are reals is carried as a function into the reals; the lemmas
   here say what the programs' operations make of it at an index: broadcasts of a column, sums along a row,
   matrix products, quotients and roots, and the reals that the constants' words encode. -/
module

public import proofs.«01_k».proof.Proof.Value.Net
public import Idealize.ShloMosaic.PureOps.Ideal.Laws
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.IdealHost

@[expose] public section

noncomputable section

namespace Cert.Spec

open Idealize.ShloMosaic Idealize.ShloMosaic.ValueIdx

/-- A sum of reals. -/
theorem sum_real {n : ℕ} {f : Fin n → EReal} {g : Fin n → ℝ} (h : ∀ k, f k = (g k : EReal)) :
    ∑ k, f k = ((∑ k, g k : ℝ) : EReal) := by
  rw [Finset.sum_congr rfl fun k _ => h k, coe_sum]

/-- A column broadcast over the columns. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split_ifs with h1
    · have := p.isLt; omega
    · rfl
  | ⟨1, _⟩ => rfl

/-- A row's index with the column put back. -/
theorem lift_row {m n : ℕ} (h : (⟨2, ![m, n]⟩ : Shape).Reduces [1] (⟨1, ![m]⟩ : Shape)) (t : Fin m)
    (k : Fin ((⟨2, ![m, n]⟩ : Shape).size 1)) : h.lift (ix1 t) k = ix2 t (⟨k.val, k.isLt⟩ : Fin n) := by
  funext c; apply Fin.ext
  fin_cases c <;> rfl

/-- A column's index with the row put back. -/
theorem lift_col {m n : ℕ} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- The sum along a row. -/
theorem rowsum_apply {m n : ℕ} (x : FVec Ideal ⟨2, ![m, n]⟩ .f32) (acc : BitVec 32)
    (h : (⟨2, ![m, n]⟩ : Shape).Reduces [1] (⟨1, ![m]⟩ : Shape)) (hφ : FKind.Formats .f32)
    (hacc : acc = FKind.add.neutral .f32 hφ) (t : Fin m) :
    multiReduction .add [1] ⟨1, ![m]⟩ x acc h hφ hacc (ix1 t) = ∑ k : Fin n, x (ix2 t k) :=
  (Ideal.multiReduction_add_single x acc h hφ hacc (ix1 t)).trans
    (Finset.sum_congr rfl fun k _ => congrArg x (lift_row h t k))

/-! ## The constants -/

theorem word_zero : Ideal.ofBits .f32 0x00000000#32 = 0 := by simp [Ideal.ofBits, Ideal.ieee]
theorem word_one : Ideal.ofBits .f32 0x3F800000#32 = ((1 : ℝ) : EReal) := by
  simp [Ideal.ofBits, Ideal.ieee]
  rw [← EReal.coe_mul]
  norm_num
theorem word_two : Ideal.ofBits .f32 0x40000000#32 = ((2 : ℝ) : EReal) := by
  simp [Ideal.ofBits, Ideal.ieee]
  rw [← EReal.coe_mul]
  norm_num
theorem word_inf : Ideal.ofBits .f32 0x7F800000#32 = ⊤ := by simp [Ideal.ofBits, Ideal.ieee]
theorem word_epsD : Ideal.ofBits .f32 0x322BCC77#32 = (epsD : EReal) := by
  unfold epsD; simp [Ideal.ofBits, Ideal.ieee]
theorem word_epsB : Ideal.ofBits .f32 0x3727C5AC#32 = (epsB : EReal) := by
  unfold epsB; simp [Ideal.ofBits, Ideal.ieee]
theorem word_count : Ideal.ofBits .f32 0x37800000#32 = ((1 / 65536 : ℝ) : EReal) := by
  simp [Ideal.ofBits, Ideal.ieee]
  rw [← EReal.coe_mul]
  norm_num
theorem word_65536 : Ideal.ofBits .f32 0x47800000#32 = ((65536 : ℝ) : EReal) := by
  simp [Ideal.ofBits, Ideal.ieee]
  rw [← EReal.coe_mul]
  norm_num

/-! ## Quotients and roots of reals -/

theorem div_real {a b : ℝ} (h : b ≠ 0) : Ideal.div (a : EReal) (b : EReal) = ((a / b : ℝ) : EReal) := by
  rw [Ideal.div_coe h, ← EReal.coe_mul]; congr 1; ring

theorem rsqrt_real {a : ℝ} (h : 0 < a) : Ideal.rsqrt (a : EReal) = (((Real.sqrt a)⁻¹ : ℝ) : EReal) := by
  rw [Ideal.rsqrt_coe, if_neg (not_lt.mpr h.le), if_neg h.ne']

theorem sqrt_real {a : ℝ} (h : 0 < a) : Ideal.sqrt (a : EReal) = ((Real.sqrt a : ℝ) : EReal) := by
  show (if a < 0 then (⊥ : EReal) else _) = _
  rw [if_neg (not_lt.mpr h.le)]

theorem max_real (a b : ℝ) : max (a : EReal) (b : EReal) = ((max a b : ℝ) : EReal) :=
  (EReal.coe_strictMono.monotone.map_max).symm

/-! ## Matrix products -/

theorem matmul_real {M K N : ℕ} {φ₁ φ₂ : FTy} (prec : Option ContractPrecision)
    {x : FVec Ideal ⟨2, ![M, K]⟩ φ₁} {w : FVec Ideal ⟨2, ![K, N]⟩ φ₂}
    {a : Fin M → Fin K → ℝ} {b : Fin K → Fin N → ℝ}
    (r : Fin M) (c : Fin N) (hx : ∀ k, x (ix2 r k) = (a r k : EReal)) (hw : ∀ k, w (ix2 k c) = (b k c : EReal)) :
    FloatOps.matmul (DotDims.plain M K N) prec x w (constant (F := Ideal) ⟨2, ![M, N]⟩ .f32 0x00000000#32) (ix2 r c)
      = ((∑ k, a r k * b k c : ℝ) : EReal) := by
  rw [Ideal.matmul_plain_apply, constant_apply, word_zero, zero_add]
  exact sum_real fun k => by rw [hx, hw, ← EReal.coe_mul]

theorem matmul_tr_real {M K N : ℕ} {φ₁ φ₂ : FTy} (prec : Option ContractPrecision)
    {x : FVec Ideal ⟨2, ![M, K]⟩ φ₁} {w : FVec Ideal ⟨2, ![N, K]⟩ φ₂}
    {a : Fin M → Fin K → ℝ} {b : Fin N → Fin K → ℝ}
    (r : Fin M) (c : Fin N) (hx : ∀ k, x (ix2 r k) = (a r k : EReal)) (hw : ∀ k, w (ix2 c k) = (b c k : EReal)) :
    FloatOps.matmul (DotDims.transposedRhs M K N) prec x w (constant (F := Ideal) ⟨2, ![M, N]⟩ .f32 0x00000000#32) (ix2 r c)
      = ((∑ k, a r k * b c k : ℝ) : EReal) := by
  rw [Ideal.matmul_transposedRhs_apply, constant_apply, word_zero, zero_add]
  exact sum_real fun k => by rw [hx, hw, ← EReal.coe_mul]

end Cert.Spec

end
-- ==== Proof.Value.Mix.lean ====
/- The first layer's values, when the features are mixed before they are interpolated.

   The first call multiplies the known points' features by the first weight matrix, and the second call
   interpolates the products; the textbook interpolates first. `chosen` is the column of weights that the
   second call builds, zero but at the three nearest points. -/
module

public import proofs.«01_k».proof.Proof.Value.Net

@[expose] public section

noncomputable section

namespace Cert.Spec

variable (X : Data)

/-- The features of the known points, mixed by the first weight matrix. -/
def kf1 (b : Fin 16) (o : Fin 256) (m : Fin 1024) : ℝ := ∑ c, X.W1 o (colA c) * X.kf b c m

/-- The weight of a known point at a query point. -/
def chosen (b : Fin 16) (n : Fin 4096) (m : Fin 1024) : ℝ :=
  if m = near X b n 2 then wt X b n 2 else if m = near X b n 1 then wt X b n 1
    else if m = near X b n 0 then wt X b n 0 else 0

theorem near_10 (b : Fin 16) (n : Fin 4096) : near X b n 1 ≠ near X b n 0 :=
  fun e => (pick_first1 (dist X b n)).out (Finset.mem_singleton.mpr e)
theorem near_20 (b : Fin 16) (n : Fin 4096) : near X b n 2 ≠ near X b n 0 :=
  fun e => (pick_first2 (dist X b n)).out (Finset.mem_insert.mpr (Or.inl e))
theorem near_21 (b : Fin 16) (n : Fin 4096) : near X b n 2 ≠ near X b n 1 :=
  fun e => (pick_first2 (dist X b n)).out (Finset.mem_insert.mpr (Or.inr (Finset.mem_singleton.mpr e)))

/-- It is the sum of the three nearest points' weights, each at its own point. -/
theorem chosen_eq (b : Fin 16) (n : Fin 4096) (m : Fin 1024) :
    chosen X b n m = ∑ j, if m = near X b n j then wt X b n j else 0 := by
  unfold chosen
  rw [Fin.sum_univ_three]
  by_cases h2 : m = near X b n 2
  · have h0 : m ≠ near X b n 0 := h2 ▸ near_20 X b n
    have h1 : m ≠ near X b n 1 := h2 ▸ near_21 X b n
    rw [if_pos h2, if_neg h0, if_neg h1, if_pos h2, zero_add, zero_add]
  · rw [if_neg h2, if_neg h2, add_zero]
    by_cases h1 : m = near X b n 1
    · have h0 : m ≠ near X b n 0 := h1 ▸ near_10 X b n
      rw [if_pos h1, if_neg h0, if_pos h1, zero_add]
    · rw [if_neg h1, if_neg h1, add_zero]

/-- A sum weighted so has three terms. -/
theorem sum_chosen (b : Fin 16) (n : Fin 4096) (f : Fin 1024 → ℝ) :
    ∑ m, f m * chosen X b n m = ∑ j, f (near X b n j) * wt X b n j := by
  simp only [chosen_eq, Finset.mul_sum]
  rw [Finset.sum_comm]
  refine Finset.sum_congr rfl fun j _ => ?_
  simp only [mul_ite, mul_zero]
  rw [Finset.sum_ite_eq' Finset.univ (near X b n j) fun m => f m * wt X b n j, if_pos (Finset.mem_univ _)]

/-- Mixed before or after, the values are the same. -/
theorem y1_eq (b : Fin 16) (o : Fin 256) (n : Fin 4096) :
    ((∑ m, kf1 X b o m * chosen X b n m) + ∑ c, X.W1 o (colB c) * X.uf b c n) + X.b1 o = y1 X b o n := by
  unfold y1
  congr 2
  rw [sum_chosen]
  unfold kf1 interp
  simp only [Finset.sum_mul, Finset.mul_sum]
  rw [Finset.sum_comm]
  refine Finset.sum_congr rfl fun c _ => Finset.sum_congr rfl fun j _ => ?_
  ring

end Cert.Spec

end
-- ==== Proof.Value.K0.lean ====
/- The first call: the array of the known points' features through the first half of the first layer's weights. -/
module

public import proofs.«01_k».proof.Proof.Value.Ops
public import proofs.«01_k».proof.Proof.Value.Mix
public import proofs.«01_k».proof.Proof.KernelIdeal.Region0
public import Idealize.ShloMosaic.Lib.Pipeline.ValueKit

@[expose] public section

set_option maxRecDepth 16384

noncomputable section

namespace Cert.KernelIdeal.Hand

open Cert.KernelIdeal Cert.KernelIdeal.Gen Cert.Spec
open Idealize.ShloMosaic hiding ix1 ix2 ix3
open Idealize.ShloMosaic.ValueIdx Idealize.ShloMosaic.TcCoe
open Idealize.ShloMosaic.Pipeline (Dat Cfg Window)

/-- The body's block, read at a channel and a known point. -/
theorem pay0_apply (X : Data) (b : Fin 16) {x0 : Vec Ideal S256x512 .f32} {x1 : Vec Ideal S1x512x1024 .f32}
    (h0 : ∀ o q, x0 (ix2 o q) = ((X.W1 o (colA q) : ℝ) : EReal))
    (h1 : ∀ q m, x1 (ix3 (0 : Fin 1) q m) = ((X.kf b q m : ℝ) : EReal)) (a : Fin 1) (o : Fin 256) (m : Fin 1024) :
    k0_pay1 x0 x1 (ix3 a o m) = ((kf1 X b o m : ℝ) : EReal) := by
  unfold k0_pay1
  refine (shapeCast_ab_1ab_apply _ _ a o m).trans ?_
  rw [truncf_apply]
  refine (matmul_real (M := 256) (K := 512) (N := 1024) (a := fun o q => X.W1 o (colA q)) (b := fun q m => X.kf b q m)
    none o m (fun q => ?_) (fun q => ?_)).trans rfl
  · rw [truncf_apply, shapeCast_self]; exact h0 o q
  · rw [truncf_apply]; exact (shapeCast_1ab_ab_apply x1 _ q m).trans (h1 q m)

variable (V : (c : Dev nD) → (b : Ref sig .tc) → Buf (Elt Ideal) ((c : Thread nD τ).loc b))

theorem index0 : ∀ t : Fin cfg0.N, win0_0.index t = ![0, 0] ∧ win0_1.index t = ![t.val, 0, 0] ∧ win0_2.index t = ![t.val, 0, 0] := by
  decide +kernel

/-- The first call's array. -/
theorem array0 (X : Data) (c : Dev nD)
    (hA : V c main_v0 = fun i : S256x512.Idx => ((X.W1 (i 0) (colA (i 1)) : ℝ) : EReal))
    (hB : V c main_arg3 = fun i : S16x512x1024.Idx => ((X.kf (i 0) (i 1) (i 2) : ℝ) : EReal)) :
    (dat0 V c).arrAt 2 cfg0.N = fun i : S16x256x1024.Idx => ((kf1 X (i 0) (i 1) (i 2) : ℝ) : EReal) := by
  refine (dat0 V c).arrAt_eq_of_covers 2 _ (by decide +kernel) fun t hf y => ?_
  blk_simp
  rw [after0_2]
  obtain ⟨i0, i1, i2⟩ := index0 t
  have ht : t.val < 16 := t.isLt
  refine (congrArg (k0_pay1 (iblk0 V c 0 t) (iblk0 V c 1 t)) (ValueIdx.eq_ix3 y)).trans
    ((pay0_apply X ⟨t.val, ht⟩ (fun o q => ?_) (fun q m => ?_) (y 0) (y 1) (y 2)).trans ?_)
  · unfold iblk0
    refine (congrFun hA _).trans ?_
    congr 2
    · exact Fin.ext (by blk_simp [i0])
    · exact congrArg _ (Fin.ext (by blk_simp [i0]))
  · unfold iblk0
    refine (congrFun hB _).trans ?_
    congr 2
    · exact Fin.ext (by blk_simp [i1])
    · exact Fin.ext (by blk_simp [i1])
    · exact Fin.ext (by blk_simp [i1])
  · congr 2
    · exact Fin.ext (by blk_simp [i2])
    · exact Fin.ext (by blk_simp [i2])
    · exact Fin.ext (by blk_simp [i2])

end Cert.KernelIdeal.Hand
-- ==== Proof.Value.Column.lean ====
/- One step of the search for the nearest points, at a column.

   The kernel holds a tile of distances, one query point per column, and takes three times the minimum of
   each column, the first row that attains it, and sets that row to +∞. If the rows in `S` have been set to
   +∞ and `p` comes first outside `S`, the minimum is `p`'s distance, the row found is `p`, and after it the
   rows in `insert p S` are +∞. -/
module

public import proofs.«01_k».proof.Proof.Value.Ops
public import Idealize.ShloMosaic.Lib.StableHlo.Predicate

@[expose] public section

noncomputable section

namespace Cert.Spec

open Idealize.ShloMosaic Idealize.ShloMosaic.ValueIdx Idealize.ShloMosaic.StableHlo.Predicate

/-- A column of distances with the rows of `S` set to +∞. -/
def masked (d : Fin 1024 → ℝ) (S : Finset (Fin 1024)) (m : Fin 1024) : EReal :=
  if m ∈ S then ⊤ else (d m : EReal)

variable {d : Fin 1024 → ℝ} {S : Finset (Fin 1024)} {p : Fin 1024}

theorem masked_at (hp : IsFirst d S p) : masked d S p = (d p : EReal) := if_neg hp.out

theorem masked_ge (hp : IsFirst d S p) (m : Fin 1024) : (d p : EReal) ≤ masked d S m := by
  unfold masked
  split_ifs with h
  · exact le_top
  · exact EReal.coe_le_coe_iff.mpr (hp.le m h)

/-- The minimum of the column. -/
theorem masked_min (hp : IsFirst d S p) :
    (Finset.univ : Finset (Fin 1024)).fold min (⊤ : EReal) (masked d S) = (d p : EReal) := by
  apply le_antisymm
  · exact (Finset.fold_min_le _).mpr (Or.inr ⟨p, Finset.mem_univ _, (masked_at hp).le⟩)
  · exact (Finset.le_fold_min _).mpr ⟨le_top, fun m _ => masked_ge hp m⟩

/-- A row that attains the minimum is `p` or comes after it. -/
theorem masked_eq_le (hp : IsFirst d S p) (m : Fin 1024) (e : masked d S m = (d p : EReal)) : p ≤ m := by
  unfold masked at e
  split_ifs at e with h
  · exact absurd e.symm (EReal.coe_ne_top _)
  · exact hp.pos m h (EReal.coe_eq_coe_iff.mp e)

/-- The row numbers that the search keeps: a row's own where it attains the minimum, else 1024. -/
def rowWord (d : Fin 1024 → ℝ) (S : Finset (Fin 1024)) (p m : Fin 1024) : BitVec 32 :=
  if masked d S m = (d p : EReal) then BitVec.ofNat 32 m.val else 1024#32

theorem toInt_minsi (x y : BitVec 32) : (IntOp.minsi x y).toInt = min x.toInt y.toInt := by
  unfold IntOp.minsi
  rw [BitVec.slt_eq_decide]
  by_cases h : x.toInt < y.toInt
  · rw [if_pos (decide_eq_true h), min_eq_left h.le]
  · rw [if_neg (by rw [decide_eq_true_eq]; exact h), min_eq_right (not_lt.mp h)]

theorem rowWord_at (hp : IsFirst d S p) : (rowWord d S p p).toInt = (p.val : ℤ) := by
  unfold rowWord
  rw [if_pos (masked_at hp), toInt_ofNat_small _ (lt_trans p.isLt (by norm_num))]

theorem rowWord_ge (hp : IsFirst d S p) (m : Fin 1024) : (p.val : ℤ) ≤ (rowWord d S p m).toInt := by
  unfold rowWord
  split_ifs with h
  · rw [toInt_ofNat_small _ (lt_trans m.isLt (by norm_num))]
    exact_mod_cast masked_eq_le hp m h
  · rw [show (1024#32).toInt = 1024 by decide]
    have := p.isLt
    omega

/-- The least of them is `p`. -/
theorem rowWord_min (hp : IsFirst d S p) :
    (Finset.univ : Finset (Fin 1024)).fold IntOp.minsi 2147483647#32 (rowWord d S p) = BitVec.ofNat 32 p.val := by
  apply BitVec.eq_of_toInt_eq
  rw [toInt_ofNat_small _ (lt_trans p.isLt (by norm_num)), ← Finset.fold_hom (op' := min) toInt_minsi]
  apply le_antisymm
  · exact (Finset.fold_min_le _).mpr (Or.inr ⟨p, Finset.mem_univ _, (rowWord_at hp).le⟩)
  · refine (Finset.le_fold_min _).mpr ⟨?_, fun m _ => rowWord_ge hp m⟩
    rw [show (2147483647#32).toInt = 2147483647 by decide]
    have := p.isLt
    omega

/-! ## The three operations -/

abbrev Tile : Shape := ⟨2, ![1024, 512]⟩
abbrev Row : Shape := ⟨2, ![1, 512]⟩
abbrev Flat : Shape := ⟨1, ![512]⟩

/-- The columns' minima … -/
def minOf (x : FVec Ideal Tile .f32) (h : Tile.Reduces [0] Flat) (hφ : FKind.Formats .f32)
    (hacc : (0x7F800000#32 : BitVec 32) = FKind.minimumf.neutral .f32 hφ) (hc : Flat.ShapeCasts Row) : FVec Ideal Row .f32 :=
  shapeCast Row (multiReduction .minimumf [0] Flat x 0x7F800000#32 h hφ hacc) hc

/-- … the first rows attaining them … -/
def argOf (x : FVec Ideal Tile .f32) (mn : FVec Ideal Row .f32) (h : Tile.Reduces [0] Flat) (hc : Flat.ShapeCasts Row)
    (hb : Row.Broadcasts Tile) (hi : Tile.Iotas .tc 32 [0])
    (hacc : (2147483647#32 : BitVec 32) = IKind.minsi.neutral) : IVec Row 32 :=
  shapeCast Row (multiReductionI .minsi [0] Flat
    (select (cmpf .oeq x (broadcastTo Tile mn hb)) (iota .tc Tile 32 [0] hi) (broadcast Tile 1024#32))
    2147483647#32 h hacc) hc

/-- … and the tile with these rows set to a value. -/
def maskOf (v : Ideal .f32) (x : FVec Ideal Tile .f32) (ar : IVec Row 32) (hb : Row.Broadcasts Tile)
    (hi : Tile.Iotas .tc 32 [0]) : FVec Ideal Tile .f32 :=
  select (cmpi .eq (iota .tc Tile 32 [0] hi) (broadcastTo Tile ar hb)) (broadcast Tile v) x

theorem iota_row (hi : Tile.Iotas .tc 32 [0]) (m : Fin 1024) (c : Fin 512) :
    iota .tc Tile 32 [0] hi (ix2 m c) = BitVec.ofNat 32 m.val := iota_single_apply .tc Tile 32 0 hi (ix2 m c)

/-- Two row numbers are equal as words when they are. -/
theorem word_eq_iff (a b : Fin 1024) : BitVec.ofNat 32 a.val = BitVec.ofNat 32 b.val ↔ a = b := by
  constructor
  · intro e
    have e' := congrArg BitVec.toInt e
    rw [toInt_ofNat_small _ (lt_trans a.isLt (by norm_num)), toInt_ofNat_small _ (lt_trans b.isLt (by norm_num))] at e'
    exact Fin.ext (by exact_mod_cast e')
  · rintro rfl; rfl

/-- A choice by the comparison of a row's number with a row's number. -/
theorem select_row {α : Type} (a b : Fin 1024) (u v : α) :
    Scalar.select (IntOp.cmpi .eq (BitVec.ofNat 32 a.val) (BitVec.ofNat 32 b.val)) u v = if a = b then u else v := by
  by_cases h : a = b
  · rw [if_pos h, cmpi_eq_iff.mpr ((word_eq_iff a b).mpr h), select_one]
  · rw [if_neg h, eq_zero_of_ne_one (fun e => h ((word_eq_iff a b).mp (cmpi_eq_iff.mp e))), select_zero]

variable {x : FVec Ideal Tile .f32} {c : Fin 512}

theorem minOf_apply (hp : IsFirst d S p) (hx : ∀ m, x (ix2 m c) = masked d S m) (h : Tile.Reduces [0] Flat)
    (hφ : FKind.Formats .f32) (hacc : (0x7F800000#32 : BitVec 32) = FKind.minimumf.neutral .f32 hφ)
    (hc : Flat.ShapeCasts Row) : minOf x h hφ hacc hc (ix2 (0 : Fin 1) c) = (d p : EReal) := by
  unfold minOf
  rw [shapeCast_a_1a_apply, multiReduction_minimumf_eq_fold, h.fold_filter_drop_single]
  have hf : (x ∘ h.lift (ix1 c)) = masked d S := funext fun k => (congrArg x (lift_col h c k)).trans (hx k)
  rw [hf]
  show (Finset.univ : Finset (Fin 1024)).fold min (Ideal.ofBits .f32 0x7F800000#32) (masked d S) = _
  rw [word_inf, masked_min hp]

theorem argOf_apply (hp : IsFirst d S p) (hx : ∀ m, x (ix2 m c) = masked d S m) (mn : FVec Ideal Row .f32)
    (hmn : mn (ix2 (0 : Fin 1) c) = (d p : EReal)) (h : Tile.Reduces [0] Flat) (hc : Flat.ShapeCasts Row)
    (hb : Row.Broadcasts Tile) (hi : Tile.Iotas .tc 32 [0])
    (hacc : (2147483647#32 : BitVec 32) = IKind.minsi.neutral) :
    argOf x mn h hc hb hi hacc (ix2 (0 : Fin 1) c) = BitVec.ofNat 32 p.val := by
  unfold argOf
  rw [shapeCast_a_1a_apply, multiReductionI_eq_fold, h.fold_filter_drop_single]
  have hf : ((select (cmpf .oeq x (broadcastTo Tile mn hb)) (iota .tc Tile 32 [0] hi) (broadcast Tile 1024#32))
      ∘ h.lift (ix1 c)) = rowWord d S p := funext fun k => by
    show select _ _ _ (h.lift (ix1 c) k) = _
    rw [lift_col h c k, select_apply, cmpf_apply, iota_row, broadcast_apply, broadcastTo_1b_ab_apply, hmn]
    show Scalar.select (FloatOps.cmpf .oeq (x (ix2 k c)) (d p : EReal)) (BitVec.ofNat 32 k.val) 1024#32 = _
    rw [hx k]
    unfold rowWord
    show Scalar.select (BitVec.ofBool (decide (masked d S k = (d p : EReal)))) _ _ = _
    by_cases e : masked d S k = (d p : EReal)
    · rw [if_pos e, decide_eq_true e]; exact select_one _ _
    · rw [if_neg e, decide_eq_false e]; exact select_zero _ _
  rw [hf]
  exact rowWord_min hp

theorem maskOf_apply (hx : ∀ m, x (ix2 m c) = masked d S m) (ar : IVec Row 32)
    (har : ar (ix2 (0 : Fin 1) c) = BitVec.ofNat 32 p.val) (hb : Row.Broadcasts Tile) (hi : Tile.Iotas .tc 32 [0])
    (m : Fin 1024) : maskOf (⊤ : EReal) x ar hb hi (ix2 m c) = masked d (insert p S) m := by
  unfold maskOf
  rw [select_apply, broadcast_apply, hx]
  show Scalar.select (IntOp.cmpi .eq (iota .tc Tile 32 [0] hi (ix2 m c)) (broadcastTo Tile ar hb (ix2 m c))) _ _ = _
  rw [iota_row, broadcastTo_1b_ab_apply, har, select_row]
  unfold masked
  by_cases h : m = p
  · rw [if_pos h, if_pos (by rw [h]; exact Finset.mem_insert_self _ _)]
  · rw [if_neg h]
    simp only [Finset.mem_insert, h, false_or]

end Cert.Spec

end
-- ==== Proof.Value.K1.lean ====
/- The second call's tile of values: the distances, the three nearest points, their weights, and the two
   products, read at a channel and a query point. -/
module

public import proofs.«01_k».proof.Proof.Value.Column
public import proofs.«01_k».proof.Proof.Value.Mix
public import proofs.«01_k».proof.Proof.KernelIdeal.Body1

@[expose] public section

set_option maxRecDepth 16384

noncomputable section

namespace Cert.KernelIdeal.Hand

open Cert.KernelIdeal Cert.KernelIdeal.Gen Cert.Spec
open Idealize.ShloMosaic hiding ix1 ix2 ix3
open Idealize.ShloMosaic.ValueIdx

/-- The tile of squared distances. -/
theorem tile_dist {v0 : Vec Ideal S1x3x512 .f32} {v2 : Vec Ideal S1x1024x3 .f32} {u : Fin 512 → Fin 3 → ℝ}
    {k : Fin 1024 → Fin 3 → ℝ} (h0 : ∀ d c, v0 (ix3 (0 : Fin 1) d c) = (u c d : EReal))
    (h2 : ∀ m d, v2 (ix3 (0 : Fin 1) m d) = (k m d : EReal)) (m : Fin 1024) (c : Fin 512) :
    k1_pay14 (k1_pay11 v0 v2) (k1_pay12 v0 v2) (k1_pay13 (F := Ideal)) (ix2 m c)
      = ((((∑ d, u c d * u c d) + ∑ d, k m d * k m d) - 2 * ∑ d, u c d * k m d : ℝ) : EReal) := by
  have e9 : ∀ d c, k1_pay9 v0 (ix2 d c) = (u c d : EReal) := fun d c =>
    (shapeCast_1ab_ab_apply v0 _ d c).trans (h0 d c)
  have e10 : ∀ m d, k1_pay10 v2 (ix2 m d) = (k m d : EReal) := fun m d =>
    (shapeCast_1ab_ab_apply v2 _ m d).trans (h2 m d)
  have e13 : k1_pay13 (F := Ideal) (ix2 m c) = ((2 : ℝ) : EReal) := word_two
  unfold k1_pay14 k1_pay11 k1_pay12
  simp only [subf_apply, mulf_apply, addf_apply, e13, broadcastTo_col_apply, broadcastTo_1b_ab_apply, slice2_axis0_eq,
    slice2_axis1_eq, extf_apply, truncf_apply, e9, e10, ← EReal.coe_mul, ← EReal.coe_add, ← EReal.coe_sub]
  rw [EReal.coe_eq_coe_iff, Fin.sum_univ_three, Fin.sum_univ_three, Fin.sum_univ_three]
  have i0 : (⟨0 + (0 : Fin 1).val, by decide⟩ : Fin 3) = 0 := rfl
  have i1 : (⟨1 + (0 : Fin 1).val, by decide⟩ : Fin 3) = 1 := rfl
  have i2 : (⟨2 + (0 : Fin 1).val, by decide⟩ : Fin 3) = 2 := rfl
  rw [i0, i1, i2]
  ring

section Search

variable {v46 v49 v50 : FVec Ideal S1024x512 .f32} {d : Fin 1024 → ℝ} {c : Fin 512}

theorem mask_top : (Named.named (F := Ideal) κ "mask" (φ := .f32) 0x7149F2CA#32 : EReal) = ⊤ := rfl

theorem found0 (hd : ∀ m, k1_pay14 v46 v49 v50 (ix2 m c) = (d m : EReal)) (m : Fin 1024) :
    k1_pay14 v46 v49 v50 (ix2 m c) = masked d ∅ m := by
  rw [hd]; unfold masked; rw [if_neg (Finset.notMem_empty m)]

theorem min0 (hd : ∀ m, k1_pay14 v46 v49 v50 (ix2 m c) = (d m : EReal)) :
    k1_pay15 v46 v49 v50 (ix2 (0 : Fin 1) c) = (d (pick d 0) : EReal) :=
  minOf_apply (pick_first0 d) (found0 hd) _ _ _ _

theorem arg0 (hd : ∀ m, k1_pay14 v46 v49 v50 (ix2 m c) = (d m : EReal)) :
    k1_pay16 v46 v49 v50 (ix2 (0 : Fin 1) c) = BitVec.ofNat 32 (pick d 0).val :=
  argOf_apply (pick_first0 d) (found0 hd) _ (min0 hd) _ _ _ _ _

theorem found1 (hd : ∀ m, k1_pay14 v46 v49 v50 (ix2 m c) = (d m : EReal)) (m : Fin 1024) :
    k1_pay18 v46 v49 v50 (ix2 m c) = masked d {pick d 0} m :=
  maskOf_apply (S := ∅) (found0 hd) _ (arg0 hd) _ _ m

theorem min1 (hd : ∀ m, k1_pay14 v46 v49 v50 (ix2 m c) = (d m : EReal)) :
    k1_pay19 v46 v49 v50 (ix2 (0 : Fin 1) c) = (d (pick d 1) : EReal) :=
  minOf_apply (pick_first1 d) (found1 hd) _ _ _ _

theorem arg1 (hd : ∀ m, k1_pay14 v46 v49 v50 (ix2 m c) = (d m : EReal)) :
    k1_pay20 v46 v49 v50 (ix2 (0 : Fin 1) c) = BitVec.ofNat 32 (pick d 1).val :=
  argOf_apply (pick_first1 d) (found1 hd) _ (min1 hd) _ _ _ _ _

theorem found2 (hd : ∀ m, k1_pay14 v46 v49 v50 (ix2 m c) = (d m : EReal)) (m : Fin 1024) :
    k1_pay22 v46 v49 v50 (ix2 m c) = masked d {pick d 0, pick d 1} m := by
  rw [Finset.pair_comm]
  exact maskOf_apply (S := {pick d 0}) (found1 hd) _ (arg1 hd) _ _ m

theorem min2 (hd : ∀ m, k1_pay14 v46 v49 v50 (ix2 m c) = (d m : EReal)) :
    k1_pay23 v46 v49 v50 (ix2 (0 : Fin 1) c) = (d (pick d 2) : EReal) :=
  minOf_apply (pick_first2 d) (found2 hd) _ _ _ _

theorem arg2 (hd : ∀ m, k1_pay14 v46 v49 v50 (ix2 m c) = (d m : EReal)) :
    k1_pay24 v46 v49 v50 (ix2 (0 : Fin 1) c) = BitVec.ofNat 32 (pick d 2).val :=
  argOf_apply (pick_first2 d) (found2 hd) _ (min2 hd) _ _ _ _ _

/-- One over a real shifted by `epsD`. -/
theorem recip_apply {x : EReal} {a : ℝ} (hx : x = (a : EReal)) (ha : 0 < a + epsD) :
    Ideal.div (Ideal.ofBits .f32 0x3F800000#32) (x + Ideal.ofBits .f32 0x322BCC77#32) = ((1 / (a + epsD) : ℝ) : EReal) := by
  rw [hx, word_one, word_epsD, ← EReal.coe_add, div_real ha.ne']

theorem rec0 (hd : ∀ m, k1_pay14 v46 v49 v50 (ix2 m c) = (d m : EReal)) (h : 0 < d (pick d 0) + epsD) :
    k1_pay17 v46 v49 v50 (ix2 (0 : Fin 1) c) = ((1 / (d (pick d 0) + epsD) : ℝ) : EReal) := by
  unfold k1_pay17
  rw [divf_apply, addf_apply, broadcast_apply, broadcast_apply]
  exact recip_apply (min0 hd) h

theorem rec1 (hd : ∀ m, k1_pay14 v46 v49 v50 (ix2 m c) = (d m : EReal)) (h : 0 < d (pick d 1) + epsD) :
    k1_pay21 v46 v49 v50 (ix2 (0 : Fin 1) c) = ((1 / (d (pick d 1) + epsD) : ℝ) : EReal) := by
  unfold k1_pay21
  rw [divf_apply, addf_apply, broadcast_apply, broadcast_apply]
  exact recip_apply (min1 hd) h

theorem rec2 (hd : ∀ m, k1_pay14 v46 v49 v50 (ix2 m c) = (d m : EReal)) (h : 0 < d (pick d 2) + epsD) :
    divf (broadcast S1x512 (Scalar.ofBits (F := Ideal) .f32 0x3F800000#32))
      (addf (k1_pay23 v46 v49 v50) k1_pay25) (ix2 (0 : Fin 1) c) = ((1 / (d (pick d 2) + epsD) : ℝ) : EReal) := by
  unfold k1_pay25
  rw [divf_apply, addf_apply, broadcast_apply, broadcast_apply]
  exact recip_apply (min2 hd) h

end Search

/-- The column of weights, from the three rows found, their reciprocals, and the sum of these. -/
theorem column_apply {i0 i1 i2 : IVec S1x512 32} {a0 a1 a2 : FVec Ideal S1x512 .f32} {c : Fin 512}
    {p0 p1 p2 m : Fin 1024} {r0 r1 r2 : ℝ} (hi0 : i0 (ix2 (0 : Fin 1) c) = BitVec.ofNat 32 p0.val)
    (hi1 : i1 (ix2 (0 : Fin 1) c) = BitVec.ofNat 32 p1.val) (hi2 : i2 (ix2 (0 : Fin 1) c) = BitVec.ofNat 32 p2.val)
    (ha0 : a0 (ix2 (0 : Fin 1) c) = (r0 : EReal)) (ha1 : a1 (ix2 (0 : Fin 1) c) = (r1 : EReal))
    (ha2 : a2 (ix2 (0 : Fin 1) c) = (r2 : EReal)) (hn : (r0 + r1) + r2 ≠ 0) :
    select (cmpi .eq (iota .tc S1024x512 32 [0] iota_S1024x512_d0_w32) (broadcastTo S1024x512 i2 broadcasts_S1x512_S1024x512))
      (broadcastTo S1024x512 (shapeCast S1x512 (divf a2 (addf (addf a0 a1) a2)) shapeCasts_S1x512_S1x512) broadcasts_S1x512_S1024x512)
      (select (cmpi .eq (iota .tc S1024x512 32 [0] iota_S1024x512_d0_w32) (broadcastTo S1024x512 i1 broadcasts_S1x512_S1024x512))
        (broadcastTo S1024x512 (shapeCast S1x512 (divf a1 (addf (addf a0 a1) a2)) shapeCasts_S1x512_S1x512) broadcasts_S1x512_S1024x512)
        (select (cmpi .eq (iota .tc S1024x512 32 [0] iota_S1024x512_d0_w32) (broadcastTo S1024x512 i0 broadcasts_S1x512_S1024x512))
          (broadcastTo S1024x512 (shapeCast S1x512 (divf a0 (addf (addf a0 a1) a2)) shapeCasts_S1x512_S1x512) broadcasts_S1x512_S1024x512)
          (broadcast S1024x512 (Scalar.ofBits (F := Ideal) .f32 0x00000000#32)))) (ix2 m c)
      = ((if m = p2 then r2 / ((r0 + r1) + r2) else if m = p1 then r1 / ((r0 + r1) + r2)
          else if m = p0 then r0 / ((r0 + r1) + r2) else 0 : ℝ) : EReal) := by
  have hc : ∀ (i : IVec S1x512 32) (q : Fin 1024) (hi : i (ix2 (0 : Fin 1) c) = BitVec.ofNat 32 q.val) (u v : EReal),
      Scalar.select (cmpi .eq (iota .tc S1024x512 32 [0] iota_S1024x512_d0_w32)
        (broadcastTo S1024x512 i broadcasts_S1x512_S1024x512) (ix2 m c)) u v = if m = q then u else v := fun i q hi u v => by
    show Scalar.select (IntOp.cmpi .eq (iota .tc S1024x512 32 [0] iota_S1024x512_d0_w32 (ix2 m c))
      (broadcastTo S1024x512 i broadcasts_S1x512_S1024x512 (ix2 m c))) u v = _
    rw [iota_row, broadcastTo_1b_ab_apply, hi, select_row]
  have hq : ∀ (a : FVec Ideal S1x512 .f32) (r : ℝ) (ha : a (ix2 (0 : Fin 1) c) = (r : EReal)),
      broadcastTo S1024x512 (shapeCast S1x512 (divf a (addf (addf a0 a1) a2)) shapeCasts_S1x512_S1x512)
        broadcasts_S1x512_S1024x512 (ix2 m c) = ((r / ((r0 + r1) + r2) : ℝ) : EReal) := fun a r ha => by
    rw [broadcastTo_1b_ab_apply, shapeCast_self, divf_apply, addf_apply, addf_apply, ha, ha0, ha1, ha2,
      ← EReal.coe_add, ← EReal.coe_add, div_real hn]
  have hz : broadcast S1024x512 (Scalar.ofBits (F := Ideal) .f32 0x00000000#32) (ix2 m c) = ((0 : ℝ) : EReal) := word_zero
  rw [select_apply, hc i2 p2 hi2, select_apply, hc i1 p1 hi1, select_apply, hc i0 p0 hi0, hq a2 r2 ha2, hq a1 r1 ha1,
    hq a0 r0 ha0, hz]
  split_ifs <;> rfl

theorem add3_real {P Q R : EReal} {a b c : ℝ} (hP : P = (a : EReal)) (hQ : Q = (b : EReal)) (hR : R = (c : EReal)) :
    (P + Q) + R = ((a + b + c : ℝ) : EReal) := by
  rw [hP, hQ, hR, ← EReal.coe_add, ← EReal.coe_add]

/-- The tile of the first layer's values. -/
theorem y1_apply (X : Spec.Data) (b : Fin 16) (nt : Fin 512 → Fin 4096)
    {x0 : Vec Ideal S1x3x512 .f32} {x1 : Vec Ideal S1x1024x3 .f32} {x2 : Vec Ideal S1x256x1024 .bf16}
    {x3 : Vec Ideal S1x256x512 .f32} {x4 : Vec Ideal S256x256 .f32} {x5 : Vec Ideal S256x1 .f32}
    (h0 : ∀ d c, x0 (ix3 (0 : Fin 1) d c) = (X.u b (nt c) d : EReal))
    (h1 : ∀ m d, x1 (ix3 (0 : Fin 1) m d) = (X.k b m d : EReal))
    (h2 : ∀ o m, x2 (ix3 (0 : Fin 1) o m) = (kf1 X b o m : EReal))
    (h3 : ∀ q c, x3 (ix3 (0 : Fin 1) q c) = (X.uf b q (nt c) : EReal))
    (h4 : ∀ o q, x4 (ix2 o q) = (X.W1 o (colB q) : EReal))
    (h5 : ∀ o, x5 (ix2 o (0 : Fin 1)) = (X.b1 o : EReal)) (o : Fin 256) (c : Fin 512) :
    Hand.y1 x0 x1 x2 x3 x4 x5 (ix2 o c) = (Spec.y1 X b o (nt c) : EReal) := by
  have hd : ∀ m, k1_pay14 (k1_pay11 x0 x1) (k1_pay12 x0 x1) (k1_pay13 (F := Ideal)) (ix2 m c)
      = (dist X b (nt c) m : EReal) := fun m => tile_dist (u := fun c => X.u b (nt c)) (k := X.k b) h0 h1 m c
  have r0 := rec0 hd (shifted_pos X b _ _)
  have r1 := rec1 hd (shifted_pos X b _ _)
  have r2 := rec2 hd (shifted_pos X b _ _)
  have hn : (recip X b (nt c) 0 + recip X b (nt c) 1) + recip X b (nt c) 2 = norm X b (nt c) := by
    unfold Spec.norm; rw [Fin.sum_univ_three]
  have hn0 : (recip X b (nt c) 0 + recip X b (nt c) 1) + recip X b (nt c) 2 ≠ 0 := by
    rw [hn]; exact (norm_pos X b (nt c)).ne'
  unfold Hand.y1 k1_pay26
  rw [ValueIdx.addf_apply, ValueIdx.addf_apply, broadcastTo_col_apply]
  have hs5 : shapeCast S256x1 x5 shapeCasts_S256x1_S256x1 (ix2 o (0 : Fin 1)) = (X.b1 o : EReal) := by
    rw [shapeCast_self]; exact h5 o
  rw [hs5]
  refine (add3_real (matmul_real (M := 256) (K := 1024) (N := 512) (a := kf1 X b) (b := fun m c => chosen X b (nt c) m)
      none o c (fun m => (shapeCast_1ab_ab_apply x2 _ o m).trans (h2 o m)) (fun m => ?_))
    (matmul_real (M := 256) (K := 256) (N := 512) (a := fun o q => X.W1 o (colB q)) (b := fun q c => X.uf b q (nt c))
      none o c (fun q => ?_) (fun q => (shapeCast_1ab_ab_apply x3 _ q c).trans (h3 q c))) rfl).trans ?_
  · rw [truncf_apply]
    refine (column_apply (m := m) (arg0 hd) (arg1 hd) (arg2 hd) r0 r1 r2 hn0).trans ?_
    unfold chosen wt
    rw [← hn]
    rfl
  · rw [truncf_apply, shapeCast_self]
    exact h4 o q
  · rw [y1_eq]

end Cert.KernelIdeal.Hand

end
-- ==== Proof.Value.Tail.lean ====
/- The remaining blocks of the kernel's bodies, read at an index: the running sums and what the second, third and
   fourth calls make of them. -/
module

public import proofs.«01_k».proof.Proof.Value.Ops
public import proofs.«01_k».proof.Proof.KernelIdeal.Body

@[expose] public section

set_option maxRecDepth 16384

noncomputable section

namespace Cert.KernelIdeal.Hand

open Cert.KernelIdeal Cert.KernelIdeal.Gen Cert.Spec
open Idealize.ShloMosaic hiding ix1 ix2 ix3
open Idealize.ShloMosaic.ValueIdx

/-! ## The second call -/

theorem zero1_apply (o : Fin 256) (a : Fin 1) : k1_pay1 (F := Ideal) (ix2 o a) = ((0 : ℝ) : EReal) := by
  unfold k1_pay1; rw [shapeCast_self]; exact word_zero
theorem zero2_apply (o : Fin 256) (a : Fin 1) : k1_pay2 (F := Ideal) (ix2 o a) = ((0 : ℝ) : EReal) := by
  unfold k1_pay2; rw [shapeCast_self]; exact word_zero

/-- The running sum, one tile further. -/
theorem sum1_apply {y : FVec Ideal S256x512 .f32} {v : Vec Ideal S256x1 .f32} {s : ℝ} {f : Fin 512 → ℝ} (o : Fin 256) (a : Fin 1)
    (hy : ∀ c, y (ix2 o c) = (f c : EReal)) (hv : v (ix2 o a) = (s : EReal)) :
    k1_pay3 y v (ix2 o a) = ((s + ∑ c, f c : ℝ) : EReal) := by
  unfold k1_pay3
  rw [shapeCast_self, ValueIdx.addf_apply, hv, EReal.coe_add]
  congr 1
  refine (shapeCast_a_a1_apply _ _ o a).trans ((rowsum_apply _ _ _ _ _ o).trans ?_)
  exact sum_real hy

/-- The running sum of the squares, one tile further. -/
theorem sum2_apply {y : FVec Ideal S256x512 .f32} {v : Vec Ideal S256x1 .f32} {s : ℝ} {f : Fin 512 → ℝ} (o : Fin 256) (a : Fin 1)
    (hy : ∀ c, y (ix2 o c) = (f c : EReal)) (hv : v (ix2 o a) = (s : EReal)) :
    k1_pay4 y v (ix2 o a) = ((s + ∑ c, f c * f c : ℝ) : EReal) := by
  unfold k1_pay4
  rw [shapeCast_self, ValueIdx.addf_apply, hv, EReal.coe_add]
  congr 1
  refine (shapeCast_a_a1_apply _ _ o a).trans ((rowsum_apply _ _ _ _ _ o).trans ?_)
  exact sum_real fun c => by rw [ValueIdx.mulf_apply, hy, EReal.coe_mul]

/-- The block of the first layer's values, as stored. -/
theorem stored1_apply {y : FVec Ideal S256x512 .f32} (b : Fin 1) (o : Fin 256) (c : Fin 512) :
    k1_pay5 y (ix3 b o c) = y (ix2 o c) := by
  unfold k1_pay5
  exact (shapeCast_ab_1ab_apply _ _ b o c).trans rfl

theorem mean1_apply {v : Vec Ideal S256x1 .f32} {s : ℝ} (o : Fin 256) (a : Fin 1) (hv : v (ix2 o a) = (s : EReal)) :
    k1_pay6 v (ix2 o a) = ((s * (1 / 65536) : ℝ) : EReal) := by
  unfold k1_pay6
  show v (ix2 o a) * Ideal.ofBits .f32 0x37800000#32 = _
  rw [hv, word_count, ← EReal.coe_mul]

/-- The scale of the first normalization. -/
theorem scale1_apply {v q g : Vec Ideal S256x1 .f32} {s t r : ℝ} (o : Fin 256) (a : Fin 1)
    (hv : v (ix2 o a) = (s : EReal)) (hq : q (ix2 o a) = (t : EReal)) (hg : g (ix2 o a) = (r : EReal))
    (hpos : 0 < (t * (1 / 65536) - s * (1 / 65536) * (s * (1 / 65536))) + epsB) :
    k1_pay7 v q g (ix2 o a)
      = ((r * (Real.sqrt ((t * (1 / 65536) - s * (1 / 65536) * (s * (1 / 65536))) + epsB))⁻¹ : ℝ) : EReal) := by
  unfold k1_pay7
  rw [shapeCast_self]
  show g (ix2 o a) * Ideal.rsqrt ((q (ix2 o a) * Ideal.ofBits .f32 0x37800000#32 - k1_pay6 v (ix2 o a) * k1_pay6 v (ix2 o a))
    + Ideal.ofBits .f32 0x3727C5AC#32) = _
  rw [mean1_apply o a hv, hq, hg, word_count, word_epsB, ← EReal.coe_mul, ← EReal.coe_mul, ← EReal.coe_sub, ← EReal.coe_add,
    rsqrt_real hpos, ← EReal.coe_mul]

/-- The shift of the first normalization. -/
theorem shift1_apply {v q g be : Vec Ideal S256x1 .f32} {s r e : ℝ} (o : Fin 256) (a : Fin 1)
    (hv : v (ix2 o a) = (s : EReal)) (hr : k1_pay7 v q g (ix2 o a) = (r : EReal)) (he : be (ix2 o a) = (e : EReal)) :
    k1_pay8 v q g be (ix2 o a) = ((e - r * (s * (1 / 65536)) : ℝ) : EReal) := by
  unfold k1_pay8
  rw [shapeCast_self]
  show be (ix2 o a) - k1_pay7 v q g (ix2 o a) * k1_pay6 v (ix2 o a) = _
  rw [mean1_apply o a hv, hr, he, ← EReal.coe_mul, ← EReal.coe_sub]

/-! ## The third call -/

/-- The first layer, normalised and clipped. -/
theorem clip_apply {y : Vec Ideal S1x256x4096 .bf16} {sc sh : Vec Ideal S256x1 .f32} {f s e : ℝ} (o : Fin 256) (n : Fin 4096)
    (hy : y (ix3 (0 : Fin 1) o n) = (f : EReal)) (hs : sc (ix2 o (0 : Fin 1)) = (s : EReal)) (he : sh (ix2 o (0 : Fin 1)) = (e : EReal)) :
    k2_pay1 y sc sh (ix2 o n) = ((max (f * s + e) 0 : ℝ) : EReal) := by
  have e1 : shapeCast S256x4096 y shapeCasts_S1x256x4096_S256x4096 (ix2 o n) = (f : EReal) :=
    (shapeCast_1ab_ab_apply y _ o n).trans hy
  unfold k2_pay1
  rw [ValueIdx.maximumf_apply, ValueIdx.addf_apply, ValueIdx.mulf_apply, broadcastTo_col_apply, broadcastTo_col_apply, shapeCast_self, shapeCast_self,
    hs, he, extf_apply, e1, ← EReal.coe_mul, ← EReal.coe_add, ← max_real, EReal.coe_zero]
  exact congrArg (max _) word_zero

theorem zero3_apply (o : Fin 256) (a : Fin 1) : k2_pay2 (F := Ideal) (ix2 o a) = ((0 : ℝ) : EReal) := by
  unfold k2_pay2; rw [shapeCast_self]; exact word_zero
theorem zero4_apply (o : Fin 256) (a : Fin 256) : k2_pay3 (F := Ideal) (ix2 o a) = ((0 : ℝ) : EReal) := by
  unfold k2_pay3; rw [shapeCast_self]; exact word_zero

theorem sum3_apply {y : Vec Ideal S1x256x4096 .bf16} {sc sh v : Vec Ideal S256x1 .f32} {s : ℝ} {f : Fin 256 → Fin 4096 → ℝ} (o : Fin 256) (a : Fin 1)
    (hy : ∀ o n, k2_pay1 y sc sh (ix2 o n) = (f o n : EReal)) (hv : v (ix2 o a) = (s : EReal)) :
    k2_pay4 y sc sh v (ix2 o a) = ((s + ∑ n, f o n : ℝ) : EReal) := by
  unfold k2_pay4
  rw [shapeCast_self, ValueIdx.addf_apply, hv, EReal.coe_add]
  congr 1
  refine (shapeCast_a_a1_apply _ _ o a).trans ((rowsum_apply _ _ _ _ _ o).trans ?_)
  exact sum_real (hy o)

theorem sum4_apply {y : Vec Ideal S1x256x4096 .bf16} {sc sh : Vec Ideal S256x1 .f32} {v : Vec Ideal S256x256 .f32} {s : ℝ}
    {f : Fin 256 → Fin 4096 → ℝ} (o o' : Fin 256)
    (hy : ∀ o n, k2_pay1 y sc sh (ix2 o n) = (f o n : EReal)) (hv : v (ix2 o o') = (s : EReal)) :
    k2_pay5 y sc sh v (ix2 o o') = ((s + ∑ n, f o n * f o' n : ℝ) : EReal) := by
  unfold k2_pay5
  rw [shapeCast_self, ValueIdx.addf_apply, hv, EReal.coe_add]
  congr 1
  exact matmul_tr_real (M := 256) (K := 4096) (N := 256) (a := f) (b := f) none o o' (fun n => hy o n) (fun n => hy o' n)

theorem mean2_apply {w : Vec Ideal S256x256 .f32} {v : Vec Ideal S256x1 .f32} {W : Fin 256 → Fin 256 → ℝ} {s : Fin 256 → ℝ} (o : Fin 256) (a : Fin 1)
    (hw : ∀ o c, w (ix2 o c) = (W o c : EReal)) (hv : ∀ c, v (ix2 c a) = (s c : EReal)) :
    k2_pay6 w v (ix2 o a) = ((∑ c, W o c * (s c * (1 / 65536)) : ℝ) : EReal) := by
  unfold k2_pay6
  refine matmul_real (M := 256) (K := 256) (N := 1) (a := W) (b := fun c _ => s c * (1 / 65536)) (some .fp32) o a (fun c => hw o c) (fun c => ?_)
  show v (ix2 c a) * Ideal.ofBits .f32 0x37800000#32 = _
  rw [hv, word_count, ← EReal.coe_mul]

/-- The scale of the second normalization. -/
theorem scale2_apply {w : Vec Ideal S256x256 .f32} {v : Vec Ideal S256x1 .f32} {q : Vec Ideal S256x256 .f32} {g : Vec Ideal S256x1 .f32}
    {W t : Fin 256 → Fin 256 → ℝ} {p r : ℝ} (o : Fin 256) (a : Fin 1)
    (hw : ∀ o c, w (ix2 o c) = (W o c : EReal)) (hq : ∀ c c', q (ix2 c c') = (t c c' : EReal))
    (hp : k2_pay6 w v (ix2 o a) = (p : EReal)) (hg : g (ix2 o a) = (r : EReal))
    (hpos : 0 < ((∑ c, (∑ c', W o c' * (t c' c * (1 / 65536))) * W o c) - p * p) + epsB) :
    k2_pay7 w v q g (ix2 o a)
      = ((r * (Real.sqrt (((∑ c, (∑ c', W o c' * (t c' c * (1 / 65536))) * W o c) - p * p) + epsB))⁻¹ : ℝ) : EReal) := by
  unfold k2_pay7
  rw [shapeCast_self]
  rw [ValueIdx.mulf_apply, hg, EReal.coe_mul, ← rsqrt_real hpos]
  refine congrArg (fun x : EReal => (r : EReal) * Ideal.rsqrt x) ?_
  rw [ValueIdx.addf_apply, ValueIdx.subf_apply, ValueIdx.mulf_apply, hp, EReal.coe_add, EReal.coe_sub, EReal.coe_mul]
  refine congrArg₂ (fun x y : EReal => (x - (p : EReal) * (p : EReal)) + y) ?_ word_epsB
  refine (shapeCast_a_a1_apply _ _ o a).trans ((rowsum_apply _ _ _ _ _ o).trans ?_)
  refine sum_real fun c => ?_
  rw [ValueIdx.mulf_apply, hw, EReal.coe_mul]
  congr 1
  refine matmul_real (M := 256) (K := 256) (N := 256) (a := W) (b := fun c' c => t c' c * (1 / 65536)) (some .fp32) o c (fun c => hw o c) (fun c' => ?_)
  show q (ix2 c' c) * Ideal.ofBits .f32 0x37800000#32 = _
  rw [hq, word_count, ← EReal.coe_mul]

/-- The shift of the second normalization. -/
theorem shift2_apply {w : Vec Ideal S256x256 .f32} {v : Vec Ideal S256x1 .f32} {q : Vec Ideal S256x256 .f32} {g be : Vec Ideal S256x1 .f32}
    {p r : ℝ} (o : Fin 256) (a : Fin 1)
    (hp : k2_pay6 w v (ix2 o a) = (p : EReal)) (hr : k2_pay7 w v q g (ix2 o a) = (r : EReal)) :
    k2_pay8 w v q g be (ix2 o a) = be (ix2 o a) - ((r * p : ℝ) : EReal) := by
  unfold k2_pay8
  rw [shapeCast_self]
  show be (ix2 o a) - k2_pay7 w v q g (ix2 o a) * k2_pay6 w v (ix2 o a) = _
  rw [hr, hp, ← EReal.coe_mul]

/-! ## The fourth call -/

theorem last_apply {y : Vec Ideal S1x256x2048 .bf16} {sc sh : Vec Ideal S256x1 .f32} {w : Vec Ideal S256x256 .f32} {sc' sh' : Vec Ideal S256x1 .f32}
    {f : Fin 256 → ℝ} {s e : Fin 256 → ℝ} {W : Fin 256 → Fin 256 → ℝ} {s' : ℝ} (b : Fin 1) (o : Fin 256) (n : Fin 2048)
    (hy : ∀ o, y (ix3 (0 : Fin 1) o n) = (f o : EReal)) (hs : ∀ o, sc (ix2 o (0 : Fin 1)) = (s o : EReal))
    (he : ∀ o, sh (ix2 o (0 : Fin 1)) = (e o : EReal)) (hw : ∀ o c, w (ix2 o c) = (W o c : EReal))
    (hs' : sc' (ix2 o (0 : Fin 1)) = (s' : EReal)) :
    k3_pay1 y sc sh w sc' sh' (ix3 b o n)
      = max (((s' * ∑ c, W o c * max (f c * s c + e c) 0 : ℝ) : EReal) + sh' (ix2 o (0 : Fin 1))) 0 := by
  have e1 : ∀ o, shapeCast S256x2048 y shapeCasts_S1x256x2048_S256x2048 (ix2 o n) = (f o : EReal) := fun o =>
    (shapeCast_1ab_ab_apply y _ o n).trans (hy o)
  unfold k3_pay1
  refine (shapeCast_ab_1ab_apply _ _ b o n).trans ?_
  rw [ValueIdx.maximumf_apply, ValueIdx.addf_apply, ValueIdx.mulf_apply, broadcastTo_col_apply, broadcastTo_col_apply, shapeCast_self sc',
    shapeCast_self sh', hs', EReal.coe_mul]
  refine congrArg₂ (fun x y : EReal => max ((s' : EReal) * x + sh' (ix2 o (0 : Fin 1))) y) ?_ word_zero
  refine matmul_real (M := 256) (K := 256) (N := 2048) (a := W) (b := fun c _ => max (f c * s c + e c) 0) none o n (fun c => hw o c) (fun c => ?_)
  rw [truncf_apply, ValueIdx.maximumf_apply, ValueIdx.addf_apply, ValueIdx.mulf_apply, broadcastTo_col_apply, broadcastTo_col_apply, shapeCast_self sc,
    shapeCast_self sh, hs, he, extf_apply, e1, ← EReal.coe_mul, ← EReal.coe_add, ← max_real, EReal.coe_zero]
  exact congrArg (max _) word_zero

end Cert.KernelIdeal.Hand
-- ==== Proof.Value.A1.lean ====
/- The second call over its grid: the array of the first layer's values, and the scale and the shift of its
   normalization from the running sums. -/
module

public import proofs.«01_k».proof.Proof.Value.K1
public import proofs.«01_k».proof.Proof.Value.Tail
public import proofs.«01_k».proof.Proof.KernelIdeal.Region1

@[expose] public section

set_option maxRecDepth 16384

noncomputable section

namespace Cert.Spec

/-- The batch of a point of the second call's grid, -/
def batchAt (t : ℕ) : Fin 16 := ⟨t / 8 % 16, Nat.mod_lt _ (by decide)⟩
/-- and the query point of a column of its block. -/
def pointAt (t : ℕ) (l : Fin 512) : Fin 4096 := ⟨t % 8 * 512 + l.val, by have := Nat.mod_lt t (by decide : 8 > 0); omega⟩

/-- The sum over the blocks up to a point. -/
def part (f : Fin 16 → Fin 4096 → ℝ) (n : ℕ) : ℝ := ∑ t ∈ Finset.range (n + 1), ∑ l, f (batchAt t) (pointAt t l)

theorem part_zero (f : Fin 16 → Fin 4096 → ℝ) : part f 0 = 0 + ∑ l, f (batchAt 0) (pointAt 0 l) := by
  rw [part, Finset.sum_range_succ, Finset.sum_range_zero]

theorem part_succ (f : Fin 16 → Fin 4096 → ℝ) (n : ℕ) :
    part f (n + 1) = part f n + ∑ l, f (batchAt (n + 1)) (pointAt (n + 1) l) := by
  rw [part, Finset.sum_range_succ, part]

/-- At the last point it is the sum over all batches and points. -/
theorem part_last (f : Fin 16 → Fin 4096 → ℝ) : part f 127 = tot f := by
  rw [part, Finset.sum_range, tot]
  refine Eq.trans ?_ (Fin.sum_points_lanes_fin (N := 128) (n := 512) 8 f)
  refine Finset.sum_congr rfl fun t _ => Finset.sum_congr rfl fun l _ => ?_
  have e : batchAt t.val = ⟨t.val / 8, by have := t.isLt; omega⟩ := Fin.ext (Nat.mod_eq_of_lt (by have := t.isLt; omega))
  rw [e]
  rfl

end Cert.Spec

namespace Cert.KernelIdeal.Hand

open Cert.KernelIdeal Cert.KernelIdeal.Gen Cert.Spec
open Idealize.ShloMosaic hiding ix1 ix2 ix3
open Idealize.ShloMosaic.ValueIdx Idealize.ShloMosaic.TcCoe
open Idealize.ShloMosaic.Pipeline (Dat Cfg Window)

variable (V : (c : Dev nD) → (b : Ref sig .tc) → Buf (Elt Ideal) ((c : Thread nD τ).loc b))

theorem index1 : ∀ t : Fin cfg1.N, win1_0.index t = ![t.val / 8, 0, t.val % 8] ∧ win1_1.index t = ![t.val / 8, 0, 0]
    ∧ win1_2.index t = ![t.val / 8, 0, 0] ∧ win1_3.index t = ![t.val / 8, 0, t.val % 8] ∧ win1_4.index t = ![0, 0]
    ∧ win1_5.index t = ![0, 0] ∧ win1_6.index t = ![0, 0] ∧ win1_7.index t = ![0, 0]
    ∧ win1_8.index t = ![t.val / 8, 0, t.val % 8] ∧ win1_9.index t = ![0, 0] ∧ win1_10.index t = ![0, 0] := by
  decide +kernel

/-- What the call finds in its input arrays. -/
structure Given1 (X : Data) (c : Dev nD) : Prop where
  u : V c main_v2 = fun i : S16x3x4096.Idx => ((X.u (i 0) (i 2) (i 1) : ℝ) : EReal)
  k : V c main_arg1 = fun i : S16x1024x3.Idx => ((X.k (i 0) (i 1) (i 2) : ℝ) : EReal)
  kf : V c main_v3 = fun i : S16x256x1024.Idx => ((kf1 X (i 0) (i 1) (i 2) : ℝ) : EReal)
  uf : V c main_arg2 = fun i : S16x256x4096.Idx => ((X.uf (i 0) (i 1) (i 2) : ℝ) : EReal)
  w : V c main_v1 = fun i : S256x256.Idx => ((X.W1 (i 0) (colB (i 1)) : ℝ) : EReal)
  b : V c main_v4 = fun i : S256x1.Idx => ((X.b1 (i 0) : ℝ) : EReal)
  g : V c main_v5 = fun i : S256x1.Idx => ((X.g1 (i 0) : ℝ) : EReal)
  be : V c main_v6 = fun i : S256x1.Idx => ((X.be1 (i 0) : ℝ) : EReal)

variable {V}

theorem coe1 {A : Type} {f : A → ℝ} {a a' : A} (h : a = a') : ((f a : ℝ) : EReal) = ((f a' : ℝ) : EReal) := by rw [h]
theorem coe2 {A B : Type} {f : A → B → ℝ} {a a' : A} {b b' : B} (h : a = a') (h' : b = b') :
    ((f a b : ℝ) : EReal) = ((f a' b' : ℝ) : EReal) := by rw [h, h']
theorem coe3 {A B C : Type} {f : A → B → C → ℝ} {a a' : A} {b b' : B} {c c' : C} (h : a = a') (h' : b = b') (h'' : c = c') :
    ((f a b c : ℝ) : EReal) = ((f a' b' c' : ℝ) : EReal) := by rw [h, h', h'']

theorem batch_of_lt {n : ℕ} (h : n < 128) : (batchAt n).val = n / 8 := Nat.mod_eq_of_lt (by omega)

theorem index1_0 (t : Fin cfg1.N) : win1_0.index t = ![t.val / 8, 0, t.val % 8] := (index1 t).1
theorem index1_1 (t : Fin cfg1.N) : win1_1.index t = ![t.val / 8, 0, 0] := (index1 t).2.1
theorem index1_2 (t : Fin cfg1.N) : win1_2.index t = ![t.val / 8, 0, 0] := (index1 t).2.2.1
theorem index1_3 (t : Fin cfg1.N) : win1_3.index t = ![t.val / 8, 0, t.val % 8] := (index1 t).2.2.2.1
theorem index1_4 (t : Fin cfg1.N) : win1_4.index t = ![0, 0] := (index1 t).2.2.2.2.1
theorem index1_5 (t : Fin cfg1.N) : win1_5.index t = ![0, 0] := (index1 t).2.2.2.2.2.1
theorem index1_6 (t : Fin cfg1.N) : win1_6.index t = ![0, 0] := (index1 t).2.2.2.2.2.2.1
theorem index1_7 (t : Fin cfg1.N) : win1_7.index t = ![0, 0] := (index1 t).2.2.2.2.2.2.2.1
theorem index1_8 (t : Fin cfg1.N) : win1_8.index t = ![t.val / 8, 0, t.val % 8] := (index1 t).2.2.2.2.2.2.2.2.1
theorem index1_9 (t : Fin cfg1.N) : win1_9.index t = ![0, 0] := (index1 t).2.2.2.2.2.2.2.2.2.1
theorem index1_10 (t : Fin cfg1.N) : win1_10.index t = ![0, 0] := (index1 t).2.2.2.2.2.2.2.2.2.2

/-! The input blocks at a point, read at an index. -/

theorem in1_0 (X : Data) (c : Dev nD) (H : Given1 V X c) (t : Fin cfg1.N) (d : Fin 3) (l : Fin 512) :
    iblk1 V c 0 t (ix3 (0 : Fin 1) d l) = ((X.u (batchAt t.val) (pointAt t.val l) d : ℝ) : EReal) := by
  have i := index1_0 t
  have ht : t.val < 128 := t.isLt
  unfold iblk1
  refine (congrFun H.u _).trans (coe3 (Fin.ext ?_) (Fin.ext ?_) (Fin.ext ?_))
  · blk_simp [i, batch_of_lt ht]
  · blk_simp [i, pointAt]
  · blk_simp [i]

theorem in1_1 (X : Data) (c : Dev nD) (H : Given1 V X c) (t : Fin cfg1.N) (m : Fin 1024) (d : Fin 3) :
    iblk1 V c 1 t (ix3 (0 : Fin 1) m d) = ((X.k (batchAt t.val) m d : ℝ) : EReal) := by
  have i := index1_1 t
  have ht : t.val < 128 := t.isLt
  unfold iblk1
  refine (congrFun H.k _).trans (coe3 (Fin.ext ?_) (Fin.ext ?_) (Fin.ext ?_))
  · blk_simp [i, batch_of_lt ht]
  · blk_simp [i]
  · blk_simp [i]

theorem in1_2 (X : Data) (c : Dev nD) (H : Given1 V X c) (t : Fin cfg1.N) (o : Fin 256) (m : Fin 1024) :
    iblk1 V c 2 t (ix3 (0 : Fin 1) o m) = ((kf1 X (batchAt t.val) o m : ℝ) : EReal) := by
  have i := index1_2 t
  have ht : t.val < 128 := t.isLt
  unfold iblk1
  refine (congrFun H.kf _).trans (coe3 (Fin.ext ?_) (Fin.ext ?_) (Fin.ext ?_))
  · blk_simp [i, batch_of_lt ht]
  · blk_simp [i]
  · blk_simp [i]

theorem in1_3 (X : Data) (c : Dev nD) (H : Given1 V X c) (t : Fin cfg1.N) (o : Fin 256) (l : Fin 512) :
    iblk1 V c 3 t (ix3 (0 : Fin 1) o l) = ((X.uf (batchAt t.val) o (pointAt t.val l) : ℝ) : EReal) := by
  have i := index1_3 t
  have ht : t.val < 128 := t.isLt
  unfold iblk1
  refine (congrFun H.uf _).trans (coe3 (Fin.ext ?_) (Fin.ext ?_) (Fin.ext ?_))
  · blk_simp [i, batch_of_lt ht]
  · blk_simp [i]
  · blk_simp [i, pointAt]

theorem in1_4 (X : Data) (c : Dev nD) (H : Given1 V X c) (t : Fin cfg1.N) (o q : Fin 256) :
    iblk1 V c 4 t (ix2 o q) = ((X.W1 o (colB q) : ℝ) : EReal) := by
  have i := index1_4 t
  unfold iblk1
  refine (congrFun H.w _).trans (coe2 (f := fun o q => X.W1 o (colB q)) (Fin.ext ?_) (Fin.ext ?_))
  · blk_simp [i]
  · blk_simp [i]

theorem in1_5 (X : Data) (c : Dev nD) (H : Given1 V X c) (t : Fin cfg1.N) (o : Fin 256) (a : Fin 1) :
    iblk1 V c 5 t (ix2 o a) = ((X.b1 o : ℝ) : EReal) := by
  have i := index1_5 t
  have ht : t.val < 128 := t.isLt
  unfold iblk1
  refine (congrFun H.b _).trans (coe1 (Fin.ext ?_))
  · blk_simp [i]

theorem in1_6 (X : Data) (c : Dev nD) (H : Given1 V X c) (t : Fin cfg1.N) (o : Fin 256) (a : Fin 1) :
    iblk1 V c 6 t (ix2 o a) = ((X.g1 o : ℝ) : EReal) := by
  have i := index1_6 t
  have ht : t.val < 128 := t.isLt
  unfold iblk1
  refine (congrFun H.g _).trans (coe1 (Fin.ext ?_))
  · blk_simp [i]

theorem in1_7 (X : Data) (c : Dev nD) (H : Given1 V X c) (t : Fin cfg1.N) (o : Fin 256) (a : Fin 1) :
    iblk1 V c 7 t (ix2 o a) = ((X.be1 o : ℝ) : EReal) := by
  have i := index1_7 t
  have ht : t.val < 128 := t.isLt
  unfold iblk1
  refine (congrFun H.be _).trans (coe1 (Fin.ext ?_))
  · blk_simp [i]

/-- The block of the first layer's values at a point. -/
theorem block1 (X : Data) (c : Dev nD) (H : Given1 V X c) (t : Fin cfg1.N) (o : Fin 256) (l : Fin 512) :
    Hand.y1 (iblk1 V c 0 t) (iblk1 V c 1 t) (iblk1 V c 2 t) (iblk1 V c 3 t) (iblk1 V c 4 t) (iblk1 V c 5 t) (ix2 o l)
      = ((Spec.y1 X (batchAt t.val) o (pointAt t.val l) : ℝ) : EReal) :=
  y1_apply X (batchAt t.val) (pointAt t.val) (in1_0 X c H t) (in1_1 X c H t) (in1_2 X c H t) (in1_3 X c H t)
    (in1_4 X c H t) (fun o => in1_5 X c H t o 0) o l

/-- The running sums after a point. -/
theorem carried1 (X : Data) (c : Dev nD) (H : Given1 V X c) (n : ℕ) (hn : n < cfg1.N) (o : Fin 256) (a : Fin 1) :
    (carry1 V c n hn).1 (ix2 o a) = ((part (fun b n => Spec.y1 X b o n) n : ℝ) : EReal)
      ∧ (carry1 V c n hn).2 (ix2 o a) = ((part (fun b n => Spec.y1 X b o n * Spec.y1 X b o n) n : ℝ) : EReal) := by
  induction n with
  | zero =>
    rw [carry1_first V c ⟨0, hn⟩ rfl, part_zero, part_zero]
    exact ⟨sum1_apply o a (fun l => block1 X c H ⟨0, hn⟩ o l) (zero1_apply o a),
      sum2_apply o a (fun l => block1 X c H ⟨0, hn⟩ o l) (zero2_apply o a)⟩
  | succ n ih =>
    obtain ⟨h1, h2⟩ := ih (Nat.lt_of_succ_lt hn)
    rw [carry1_next V c ⟨n + 1, hn⟩ (Nat.succ_ne_zero n), part_succ, part_succ]
    exact ⟨sum1_apply o a (fun l => block1 X c H ⟨n + 1, hn⟩ o l) h1,
      sum2_apply o a (fun l => block1 X c H ⟨n + 1, hn⟩ o l) h2⟩

/-- The array of the first layer's values. -/
theorem array1_y (X : Data) (c : Dev nD) (H : Given1 V X c) :
    (dat1 V c).arrAt 8 cfg1.N = fun i : S16x256x4096.Idx => ((Spec.y1 X (i 0) (i 1) (i 2) : ℝ) : EReal) := by
  refine (dat1 V c).arrAt_eq_of_covers 8 _ (by decide +kernel) fun t hf y => ?_
  blk_simp
  rw [after1_8]
  have i := index1_8 t
  have ht : t.val < 128 := t.isLt
  refine (congrArg (k1_pay5 _) (ValueIdx.eq_ix3 y)).trans ((stored1_apply (y 0) (y 1) (y 2)).trans
    ((block1 X c H t (y 1) (y 2)).trans (coe3 (Fin.ext ?_) (Fin.ext ?_) (Fin.ext ?_))))
  · blk_simp [i, batch_of_lt ht]
  · blk_simp [i]
  · blk_simp [i, pointAt]

theorem flush1_9 : ∀ t : Fin cfg1.N, (cfg1.win 9).flush t = true → t.val = 127 :=
  (by decide +kernel : ∀ t : Fin grid1.N, win1_9.flush t = true → t.val = 127)
theorem flush1_10 : ∀ t : Fin cfg1.N, (cfg1.win 10).flush t = true → t.val = 127 :=
  (by decide +kernel : ∀ t : Fin grid1.N, win1_10.flush t = true → t.val = 127)

/-- The scale at the last point. -/
theorem scaled1 (X : Data) (c : Dev nD) (H : Given1 V X c) (t : Fin cfg1.N) (ht : t.val = 127) (o : Fin 256) (a : Fin 1) :
    k1_pay7 (carry1 V c t.val t.isLt).1 (carry1 V c t.val t.isLt).2 (iblk1 V c 6 t) (ix2 o a) = ((sc1 X o : ℝ) : EReal) := by
  obtain ⟨h1, h2⟩ := carried1 X c H t.val t.isLt o a
  have h1' := h1.trans (congrArg _ ((congrArg _ ht).trans (part_last _)))
  have h2' := h2.trans (congrArg _ ((congrArg _ ht).trans (part_last _)))
  have e := var_eq fun b n => Spec.y1 X b o n
  have hpos := var_eps_pos fun b n => Spec.y1 X b o n
  rw [← e] at hpos
  refine (scale1_apply o a h1' h2' (in1_6 X c H t o a) hpos).trans ?_
  rw [e]
  rfl

/-- The shift at the last point. -/
theorem shifted1 (X : Data) (c : Dev nD) (H : Given1 V X c) (t : Fin cfg1.N) (ht : t.val = 127) (o : Fin 256) (a : Fin 1) :
    k1_pay8 (carry1 V c t.val t.isLt).1 (carry1 V c t.val t.isLt).2 (iblk1 V c 6 t) (iblk1 V c 7 t) (ix2 o a)
      = ((sh1 X o : ℝ) : EReal) := by
  have h1' := (carried1 X c H t.val t.isLt o a).1.trans (congrArg _ ((congrArg _ ht).trans (part_last _)))
  exact shift1_apply o a h1' (scaled1 X c H t ht o a) (in1_7 X c H t o a)

/-- The array of the scales. -/
theorem array1_scale (X : Data) (c : Dev nD) (H : Given1 V X c) :
    (dat1 V c).arrAt 9 cfg1.N = fun i : S256x1.Idx => ((sc1 X (i 0) : ℝ) : EReal) := by
  refine (dat1 V c).arrAt_eq_of_covers 9 _ (by decide +kernel) fun t hf y => ?_
  have ht := flush1_9 t hf
  have i := index1_9 t
  blk_simp
  rw [after1_9]
  refine (congrArg (k1_pay7 _ _ _) (ValueIdx.eq_ix2 y)).trans ((scaled1 X c H t ht (y 0) (y 1)).trans (coe1 (Fin.ext ?_)))
  blk_simp [i]

/-- The array of the shifts. -/
theorem array1_shift (X : Data) (c : Dev nD) (H : Given1 V X c) :
    (dat1 V c).arrAt 10 cfg1.N = fun i : S256x1.Idx => ((sh1 X (i 0) : ℝ) : EReal) := by
  refine (dat1 V c).arrAt_eq_of_covers 10 _ (by decide +kernel) fun t hf y => ?_
  have ht := flush1_10 t hf
  have i := index1_10 t
  blk_simp
  rw [after1_10]
  refine (congrArg (k1_pay8 _ _ _ _) (ValueIdx.eq_ix2 y)).trans ((shifted1 X c H t ht (y 0) (y 1)).trans (coe1 (Fin.ext ?_)))
  blk_simp [i]

end Cert.KernelIdeal.Hand
-- ==== Proof.Value.A2.lean ====
/- The third call over its grid: the scale and the shift of the second normalization, from the running sums of the
   first layer and of its products. -/
module

public import proofs.«01_k».proof.Proof.Value.A1
public import proofs.«01_k».proof.Proof.Value.Tail
public import proofs.«01_k».proof.Proof.KernelIdeal.Region2

@[expose] public section

set_option maxRecDepth 16384

noncomputable section

namespace Cert.Spec

/-- The batch of a point of the third call's grid. -/
def batchOf (t : ℕ) : Fin 16 := ⟨t % 16, Nat.mod_lt _ (by decide)⟩

/-- The sum over the batches up to a point. -/
def upto (f : Fin 16 → Fin 4096 → ℝ) (n : ℕ) : ℝ := ∑ t ∈ Finset.range (n + 1), ∑ l, f (batchOf t) l

theorem upto_zero (f : Fin 16 → Fin 4096 → ℝ) : upto f 0 = 0 + ∑ l, f (batchOf 0) l := by
  rw [upto, Finset.sum_range_succ, Finset.sum_range_zero]

theorem upto_succ (f : Fin 16 → Fin 4096 → ℝ) (n : ℕ) : upto f (n + 1) = upto f n + ∑ l, f (batchOf (n + 1)) l := by
  rw [upto, Finset.sum_range_succ, upto]

theorem batchOf_lt {n : ℕ} (h : n < 16) : (batchOf n).val = n := Nat.mod_eq_of_lt h

theorem upto_last (f : Fin 16 → Fin 4096 → ℝ) : upto f 15 = tot f := by
  rw [upto, Finset.sum_range, tot]
  refine Finset.sum_congr rfl fun t _ => ?_
  rw [show batchOf t.val = t from Fin.ext (batchOf_lt t.isLt)]

end Cert.Spec

namespace Cert.KernelIdeal.Hand

open Cert.KernelIdeal Cert.KernelIdeal.Gen Cert.Spec
open Idealize.ShloMosaic hiding ix1 ix2 ix3
open Idealize.ShloMosaic.ValueIdx Idealize.ShloMosaic.TcCoe
open Idealize.ShloMosaic.Pipeline (Dat Cfg Window)

variable (V : (c : Dev nD) → (b : Ref sig .tc) → Buf (Elt Ideal) ((c : Thread nD τ).loc b))

theorem index2 : ∀ t : Fin cfg2.N, win2_0.index t = ![t.val, 0, 0]
    ∧ win2_1.index t = ![0, 0]
    ∧ win2_2.index t = ![0, 0]
    ∧ win2_3.index t = ![0, 0]
    ∧ win2_4.index t = ![0, 0]
    ∧ win2_5.index t = ![0, 0]
    ∧ win2_6.index t = ![0, 0]
    ∧ win2_7.index t = ![0, 0] := by
  decide +kernel

theorem index2_0 (t : Fin cfg2.N) : win2_0.index t = ![t.val, 0, 0] := (index2 t).1
theorem index2_1 (t : Fin cfg2.N) : win2_1.index t = ![0, 0] := (index2 t).2.1
theorem index2_2 (t : Fin cfg2.N) : win2_2.index t = ![0, 0] := (index2 t).2.2.1
theorem index2_3 (t : Fin cfg2.N) : win2_3.index t = ![0, 0] := (index2 t).2.2.2.1
theorem index2_4 (t : Fin cfg2.N) : win2_4.index t = ![0, 0] := (index2 t).2.2.2.2.1
theorem index2_5 (t : Fin cfg2.N) : win2_5.index t = ![0, 0] := (index2 t).2.2.2.2.2.1
theorem index2_6 (t : Fin cfg2.N) : win2_6.index t = ![0, 0] := (index2 t).2.2.2.2.2.2.1
theorem index2_7 (t : Fin cfg2.N) : win2_7.index t = ![0, 0] := (index2 t).2.2.2.2.2.2.2

/-- What the call finds in its input arrays. -/
structure Given2 (X : Data) (c : Dev nD) : Prop where
  y : V c main_v7_0 = fun i : S16x256x4096.Idx => ((Spec.y1 X (i 0) (i 1) (i 2) : ℝ) : EReal)
  sc : V c main_v7_1 = fun i : S256x1.Idx => ((sc1 X (i 0) : ℝ) : EReal)
  sh : V c main_v7_2 = fun i : S256x1.Idx => ((sh1 X (i 0) : ℝ) : EReal)
  w : V c main_arg8 = fun i : S256x256.Idx => ((X.W2 (i 0) (i 1) : ℝ) : EReal)
  g : V c main_v8 = fun i : S256x1.Idx => ((X.g2 (i 0) : ℝ) : EReal)
  be : V c main_v9 = fun i : S256x1.Idx => X.be2 (i 0)

variable {V}

/-! The input blocks at a point, read at an index. -/

theorem in2_0 (X : Data) (c : Dev nD) (H : Given2 V X c) (t : Fin cfg2.N) (o : Fin 256) (l : Fin 4096) :
    iblk2 V c 0 t (ix3 (0 : Fin 1) o l) = ((Spec.y1 X (batchOf t.val) o l : ℝ) : EReal) := by
  have i := index2_0 t
  have ht : t.val < 16 := t.isLt
  unfold iblk2
  refine (congrFun H.y _).trans (coe3 (Fin.ext ?_) (Fin.ext ?_) (Fin.ext ?_))
  · blk_simp [i, batchOf_lt ht]
  · blk_simp [i]
  · blk_simp [i]

theorem in2_1 (X : Data) (c : Dev nD) (H : Given2 V X c) (t : Fin cfg2.N) (o : Fin 256) (a : Fin 1) :
    iblk2 V c 1 t (ix2 o a) = ((sc1 X o : ℝ) : EReal) := by
  have i := index2_1 t
  have ht : t.val < 16 := t.isLt
  unfold iblk2
  refine (congrFun H.sc _).trans (coe1 (Fin.ext ?_))
  · blk_simp [i]

theorem in2_2 (X : Data) (c : Dev nD) (H : Given2 V X c) (t : Fin cfg2.N) (o : Fin 256) (a : Fin 1) :
    iblk2 V c 2 t (ix2 o a) = ((sh1 X o : ℝ) : EReal) := by
  have i := index2_2 t
  have ht : t.val < 16 := t.isLt
  unfold iblk2
  refine (congrFun H.sh _).trans (coe1 (Fin.ext ?_))
  · blk_simp [i]

theorem in2_3 (X : Data) (c : Dev nD) (H : Given2 V X c) (t : Fin cfg2.N) (o q : Fin 256) :
    iblk2 V c 3 t (ix2 o q) = ((X.W2 o q : ℝ) : EReal) := by
  have i := index2_3 t
  have ht : t.val < 16 := t.isLt
  unfold iblk2
  refine (congrFun H.w _).trans (coe2 (Fin.ext ?_) (Fin.ext ?_))
  · blk_simp [i]
  · blk_simp [i]

theorem in2_4 (X : Data) (c : Dev nD) (H : Given2 V X c) (t : Fin cfg2.N) (o : Fin 256) (a : Fin 1) :
    iblk2 V c 4 t (ix2 o a) = ((X.g2 o : ℝ) : EReal) := by
  have i := index2_4 t
  have ht : t.val < 16 := t.isLt
  unfold iblk2
  refine (congrFun H.g _).trans (coe1 (Fin.ext ?_))
  · blk_simp [i]

theorem in2_5 (X : Data) (c : Dev nD) (H : Given2 V X c) (t : Fin cfg2.N) (o : Fin 256) (a : Fin 1) :
    iblk2 V c 5 t (ix2 o a) = X.be2 o := by
  have i := index2_5 t
  have ht : t.val < 16 := t.isLt
  unfold iblk2
  refine (congrFun H.be _).trans (congrArg _ (Fin.ext ?_))
  · blk_simp [i]

/-- The first layer at a point, normalised and clipped. -/
theorem block2 (X : Data) (c : Dev nD) (H : Given2 V X c) (t : Fin cfg2.N) (o : Fin 256) (l : Fin 4096) :
    k2_pay1 (iblk2 V c 0 t) (iblk2 V c 1 t) (iblk2 V c 2 t) (ix2 o l) = ((Spec.h X (batchOf t.val) o l : ℝ) : EReal) := by
  rw [← h_eq]
  exact clip_apply o l (in2_0 X c H t o l) (in2_1 X c H t o 0) (in2_2 X c H t o 0)

/-- The running sums after a point. -/
theorem carried2 (X : Data) (c : Dev nD) (H : Given2 V X c) (n : ℕ) (hn : n < cfg2.N) :
    (∀ (o : Fin 256) (a : Fin 1), (carry2 V c n hn).1 (ix2 o a) = ((upto (fun b n => Spec.h X b o n) n : ℝ) : EReal))
      ∧ ∀ o o' : Fin 256, (carry2 V c n hn).2 (ix2 o o') = ((upto (fun b n => Spec.h X b o n * Spec.h X b o' n) n : ℝ) : EReal) := by
  induction n with
  | zero =>
    rw [carry2_first V c ⟨0, hn⟩ rfl]
    exact ⟨fun o a => by rw [upto_zero]; exact sum3_apply o a (block2 X c H ⟨0, hn⟩) (zero3_apply o a),
      fun o o' => by rw [upto_zero]; exact sum4_apply o o' (block2 X c H ⟨0, hn⟩) (zero4_apply o o')⟩
  | succ n ih =>
    obtain ⟨h1, h2⟩ := ih (Nat.lt_of_succ_lt hn)
    rw [carry2_next V c ⟨n + 1, hn⟩ (Nat.succ_ne_zero n)]
    exact ⟨fun o a => by rw [upto_succ]; exact sum3_apply o a (block2 X c H ⟨n + 1, hn⟩) (h1 o a),
      fun o o' => by rw [upto_succ]; exact sum4_apply o o' (block2 X c H ⟨n + 1, hn⟩) (h2 o o')⟩

theorem flush2_6 : ∀ t : Fin cfg2.N, (cfg2.win 6).flush t = true → t.val = 15 :=
  (by decide +kernel : ∀ t : Fin grid2.N, win2_6.flush t = true → t.val = 15)
theorem flush2_7 : ∀ t : Fin cfg2.N, (cfg2.win 7).flush t = true → t.val = 15 :=
  (by decide +kernel : ∀ t : Fin grid2.N, win2_7.flush t = true → t.val = 15)

/-- The mean of the second layer at the last point. -/
theorem mean2 (X : Data) (c : Dev nD) (H : Given2 V X c) (t : Fin cfg2.N) (ht : t.val = 15) (o : Fin 256) (a : Fin 1) :
    k2_pay6 (iblk2 V c 3 t) (carry2 V c t.val t.isLt).1 (ix2 o a) = ((p X o : ℝ) : EReal) :=
  mean2_apply o a (in2_3 X c H t) fun q =>
    ((carried2 X c H t.val t.isLt).1 q a).trans (congrArg _ ((congrArg _ ht).trans (upto_last _)))

/-- The scale at the last point. -/
theorem scaled2 (X : Data) (c : Dev nD) (H : Given2 V X c) (t : Fin cfg2.N) (ht : t.val = 15) (o : Fin 256) (a : Fin 1) :
    k2_pay7 (iblk2 V c 3 t) (carry2 V c t.val t.isLt).1 (carry2 V c t.val t.isLt).2 (iblk2 V c 4 t) (ix2 o a)
      = ((sc2 X o : ℝ) : EReal) := by
  have h2 := fun q q' => ((carried2 X c H t.val t.isLt).2 q q').trans (congrArg _ ((congrArg _ ht).trans (upto_last _)))
  have e := var2_eq X o
  have hpos := var_eps_pos fun b n => Spec.z X b o n
  rw [← e] at hpos
  refine (scale2_apply o a (in2_3 X c H t) h2 (mean2 X c H t ht o a) (in2_4 X c H t o a) hpos).trans ?_
  rw [e]
  rfl

/-- The shift at the last point. -/
theorem shifted2 (X : Data) (c : Dev nD) (H : Given2 V X c) (t : Fin cfg2.N) (ht : t.val = 15) (o : Fin 256) (a : Fin 1) :
    k2_pay8 (iblk2 V c 3 t) (carry2 V c t.val t.isLt).1 (carry2 V c t.val t.isLt).2 (iblk2 V c 4 t) (iblk2 V c 5 t) (ix2 o a)
      = sh2 X o :=
  (shift2_apply o a (mean2 X c H t ht o a) (scaled2 X c H t ht o a)).trans
    (congrArg (fun e : EReal => e - ((sc2 X o * p X o : ℝ) : EReal)) (in2_5 X c H t o a))

/-- The array of the scales. -/
theorem array2_scale (X : Data) (c : Dev nD) (H : Given2 V X c) :
    (dat2 V c).arrAt 6 cfg2.N = fun i : S256x1.Idx => ((sc2 X (i 0) : ℝ) : EReal) := by
  refine (dat2 V c).arrAt_eq_of_covers 6 _ (by decide +kernel) fun t hf y => ?_
  have ht := flush2_6 t hf
  have i := index2_6 t
  blk_simp
  rw [after2_6]
  refine (congrArg (k2_pay7 _ _ _ _) (ValueIdx.eq_ix2 y)).trans ((scaled2 X c H t ht (y 0) (y 1)).trans (coe1 (Fin.ext ?_)))
  blk_simp [i]

/-- The array of the shifts. -/
theorem array2_shift (X : Data) (c : Dev nD) (H : Given2 V X c) :
    (dat2 V c).arrAt 7 cfg2.N = fun i : S256x1.Idx => sh2 X (i 0) := by
  refine (dat2 V c).arrAt_eq_of_covers 7 _ (by decide +kernel) fun t hf y => ?_
  have ht := flush2_7 t hf
  have i := index2_7 t
  blk_simp
  rw [after2_7]
  refine (congrArg (k2_pay8 _ _ _ _ _) (ValueIdx.eq_ix2 y)).trans ((shifted2 X c H t ht (y 0) (y 1)).trans (congrArg _ (Fin.ext ?_)))
  blk_simp [i]

end Cert.KernelIdeal.Hand
-- ==== Proof.Value.A3.lean ====
/- The fourth call over its grid: the result. -/
module

public import proofs.«01_k».proof.Proof.Value.A1
public import proofs.«01_k».proof.Proof.Value.Tail
public import proofs.«01_k».proof.Proof.KernelIdeal.Region3

@[expose] public section

set_option maxRecDepth 16384

noncomputable section

namespace Cert.KernelIdeal.Hand

open Cert.KernelIdeal Cert.KernelIdeal.Gen Cert.Spec
open Idealize.ShloMosaic hiding ix1 ix2 ix3
open Idealize.ShloMosaic.ValueIdx Idealize.ShloMosaic.TcCoe
open Idealize.ShloMosaic.Pipeline (Dat Cfg Window)

/-- A column of a point's block of the fourth call. -/
def columnAt (t : ℕ) (l : Fin 2048) : Fin 4096 := ⟨t % 2 * 2048 + l.val, by have := Nat.mod_lt t (by decide : 2 > 0); omega⟩
/-- The batch of a point. -/
def batchHalf (t : ℕ) : Fin 16 := ⟨t / 2 % 16, Nat.mod_lt _ (by decide)⟩
theorem batchHalf_lt {n : ℕ} (h : n < 32) : (batchHalf n).val = n / 2 := Nat.mod_eq_of_lt (by omega)

variable (V : (c : Dev nD) → (b : Ref sig .tc) → Buf (Elt Ideal) ((c : Thread nD τ).loc b))

theorem index3 : ∀ t : Fin cfg3.N, win3_0.index t = ![t.val / 2, 0, t.val % 2]
    ∧ win3_1.index t = ![0, 0]
    ∧ win3_2.index t = ![0, 0]
    ∧ win3_3.index t = ![0, 0]
    ∧ win3_4.index t = ![0, 0]
    ∧ win3_5.index t = ![0, 0]
    ∧ win3_6.index t = ![t.val / 2, 0, t.val % 2] := by
  decide +kernel

theorem index3_0 (t : Fin cfg3.N) : win3_0.index t = ![t.val / 2, 0, t.val % 2] := (index3 t).1
theorem index3_1 (t : Fin cfg3.N) : win3_1.index t = ![0, 0] := (index3 t).2.1
theorem index3_2 (t : Fin cfg3.N) : win3_2.index t = ![0, 0] := (index3 t).2.2.1
theorem index3_3 (t : Fin cfg3.N) : win3_3.index t = ![0, 0] := (index3 t).2.2.2.1
theorem index3_4 (t : Fin cfg3.N) : win3_4.index t = ![0, 0] := (index3 t).2.2.2.2.1
theorem index3_5 (t : Fin cfg3.N) : win3_5.index t = ![0, 0] := (index3 t).2.2.2.2.2.1
theorem index3_6 (t : Fin cfg3.N) : win3_6.index t = ![t.val / 2, 0, t.val % 2] := (index3 t).2.2.2.2.2.2

/-- What the call finds in its input arrays. -/
structure Given3 (X : Data) (c : Dev nD) : Prop where
  y : V c main_v7_0 = fun i : S16x256x4096.Idx => ((Spec.y1 X (i 0) (i 1) (i 2) : ℝ) : EReal)
  sc : V c main_v7_1 = fun i : S256x1.Idx => ((sc1 X (i 0) : ℝ) : EReal)
  sh : V c main_v7_2 = fun i : S256x1.Idx => ((sh1 X (i 0) : ℝ) : EReal)
  w : V c main_arg8 = fun i : S256x256.Idx => ((X.W2 (i 0) (i 1) : ℝ) : EReal)
  sc' : V c main_v10_0 = fun i : S256x1.Idx => ((sc2 X (i 0) : ℝ) : EReal)
  sh' : V c main_v10_1 = fun i : S256x1.Idx => sh2 X (i 0)

variable {V}

theorem out_congr (X : Data) {b b' : Fin 16} {o o' : Fin 256} {n n' : Fin 4096} (h : b = b') (h' : o = o') (h'' : n = n') :
    out X b o n = out X b' o' n' := by rw [h, h', h'']

/-! The input blocks at a point, read at an index. -/

theorem in3_0 (X : Data) (c : Dev nD) (H : Given3 V X c) (t : Fin cfg3.N) (o : Fin 256) (l : Fin 2048) :
    iblk3 V c 0 t (ix3 (0 : Fin 1) o l) = ((Spec.y1 X (batchHalf t.val) o (columnAt t.val l) : ℝ) : EReal) := by
  have i := index3_0 t
  have ht : t.val < 32 := t.isLt
  unfold iblk3
  refine (congrFun H.y _).trans (coe3 (Fin.ext ?_) (Fin.ext ?_) (Fin.ext ?_))
  · blk_simp [i, batchHalf_lt ht]
  · blk_simp [i]
  · blk_simp [i, columnAt]

theorem in3_1 (X : Data) (c : Dev nD) (H : Given3 V X c) (t : Fin cfg3.N) (o : Fin 256) (a : Fin 1) :
    iblk3 V c 1 t (ix2 o a) = ((sc1 X o : ℝ) : EReal) := by
  have i := index3_1 t
  have ht : t.val < 32 := t.isLt
  unfold iblk3
  refine (congrFun H.sc _).trans (coe1 (Fin.ext ?_))
  · blk_simp [i]

theorem in3_2 (X : Data) (c : Dev nD) (H : Given3 V X c) (t : Fin cfg3.N) (o : Fin 256) (a : Fin 1) :
    iblk3 V c 2 t (ix2 o a) = ((sh1 X o : ℝ) : EReal) := by
  have i := index3_2 t
  have ht : t.val < 32 := t.isLt
  unfold iblk3
  refine (congrFun H.sh _).trans (coe1 (Fin.ext ?_))
  · blk_simp [i]

theorem in3_3 (X : Data) (c : Dev nD) (H : Given3 V X c) (t : Fin cfg3.N) (o q : Fin 256) :
    iblk3 V c 3 t (ix2 o q) = ((X.W2 o q : ℝ) : EReal) := by
  have i := index3_3 t
  have ht : t.val < 32 := t.isLt
  unfold iblk3
  refine (congrFun H.w _).trans (coe2 (Fin.ext ?_) (Fin.ext ?_))
  · blk_simp [i]
  · blk_simp [i]

theorem in3_4 (X : Data) (c : Dev nD) (H : Given3 V X c) (t : Fin cfg3.N) (o : Fin 256) (a : Fin 1) :
    iblk3 V c 4 t (ix2 o a) = ((sc2 X o : ℝ) : EReal) := by
  have i := index3_4 t
  have ht : t.val < 32 := t.isLt
  unfold iblk3
  refine (congrFun H.sc' _).trans (coe1 (Fin.ext ?_))
  · blk_simp [i]

theorem in3_5 (X : Data) (c : Dev nD) (H : Given3 V X c) (t : Fin cfg3.N) (o : Fin 256) (a : Fin 1) :
    iblk3 V c 5 t (ix2 o a) = sh2 X o := by
  have i := index3_5 t
  have ht : t.val < 32 := t.isLt
  unfold iblk3
  refine (congrFun H.sh' _).trans (congrArg _ (Fin.ext ?_))
  · blk_simp [i]

/-- The block of the result at a point. -/
theorem block3 (X : Data) (c : Dev nD) (H : Given3 V X c) (t : Fin cfg3.N) (b : Fin 1) (o : Fin 256) (l : Fin 2048) :
    k3_pay1 (iblk3 V c 0 t) (iblk3 V c 1 t) (iblk3 V c 2 t) (iblk3 V c 3 t) (iblk3 V c 4 t) (iblk3 V c 5 t) (ix3 b o l)
      = out X (batchHalf t.val) o (columnAt t.val l) := by
  refine (last_apply b o l (fun o => in3_0 X c H t o l) (fun o => in3_1 X c H t o 0) (fun o => in3_2 X c H t o 0) (in3_3 X c H t)
    (in3_4 X c H t o 0)).trans ?_
  rw [in3_5 X c H t o 0, ← out_eq]
  simp only [h_eq]
  rfl

/-- The array of the result. -/
theorem array3 (X : Data) (c : Dev nD) (H : Given3 V X c) :
    (dat3 V c).arrAt 6 cfg3.N = fun i : S16x256x4096.Idx => out X (i 0) (i 1) (i 2) := by
  refine (dat3 V c).arrAt_eq_of_covers 6 _ (by decide +kernel) fun t hf y => ?_
  have i := index3_6 t
  have ht : t.val < 32 := t.isLt
  blk_simp
  rw [after3_6]
  refine (congrArg (k3_pay1 _ _ _ _ _ _) (ValueIdx.eq_ix3 y)).trans ((block3 X c H t (y 0) (y 1) (y 2)).trans
    (out_congr X (Fin.ext ?_) (Fin.ext ?_) (Fin.ext ?_)))
  · blk_simp [i, batchHalf_lt ht]
  · blk_simp [i]
  · blk_simp [i, columnAt]

end Cert.KernelIdeal.Hand
-- ==== Proof.Value.Chain.lean ====
/- The kernel's buffers over the reals, from the arguments through the four calls to the result. -/
module

public import proofs.«01_k».proof.Proof.Value.K0
public import proofs.«01_k».proof.Proof.Value.A1
public import proofs.«01_k».proof.Proof.Value.A2
public import proofs.«01_k».proof.Proof.Value.A3
public import proofs.«01_k».proof.Proof.KernelIdeal.Run

@[expose] public section

set_option maxRecDepth 16384

noncomputable section

namespace Cert.KernelIdeal.Hand

open Cert.KernelIdeal Cert.KernelIdeal.Gen Cert.Spec
open Idealize.ShloMosaic hiding ix1 ix2 ix3
open Idealize.ShloMosaic.ValueIdx Idealize.ShloMosaic.TcCoe

/-- The kernel's arguments are the reals of `X`. -/
structure Args (m : (g : Loc nD τ sig) → Buf (Elt Ideal) g) (c : Dev nD) (X : Data) : Prop where
  u : U0 m c (Proc.devRef .tc main_arg0) = fun i : S16x4096x3.Idx => ((X.u (i 0) (i 1) (i 2) : ℝ) : EReal)
  k : U0 m c (Proc.devRef .tc main_arg1) = fun i : S16x1024x3.Idx => ((X.k (i 0) (i 1) (i 2) : ℝ) : EReal)
  uf : U0 m c (Proc.devRef .tc main_arg2) = fun i : S16x256x4096.Idx => ((X.uf (i 0) (i 1) (i 2) : ℝ) : EReal)
  kf : U0 m c (Proc.devRef .tc main_arg3) = fun i : S16x512x1024.Idx => ((X.kf (i 0) (i 1) (i 2) : ℝ) : EReal)
  W1 : U0 m c (Proc.devRef .tc main_arg4) = fun i : S256x768.Idx => ((X.W1 (i 0) (i 1) : ℝ) : EReal)
  b1 : U0 m c (Proc.devRef .tc main_arg5) = fun i : S256.Idx => ((X.b1 (i 0) : ℝ) : EReal)
  g1 : U0 m c (Proc.devRef .tc main_arg6) = fun i : S256.Idx => ((X.g1 (i 0) : ℝ) : EReal)
  be1 : U0 m c (Proc.devRef .tc main_arg7) = fun i : S256.Idx => ((X.be1 (i 0) : ℝ) : EReal)
  W2 : U0 m c (Proc.devRef .tc main_arg8) = fun i : S256x256.Idx => ((X.W2 (i 0) (i 1) : ℝ) : EReal)
  b2 : U0 m c (Proc.devRef .tc main_arg9) = fun i : S256.Idx => ((X.b2 (i 0) : ℝ) : EReal)
  g2 : U0 m c (Proc.devRef .tc main_arg10) = fun i : S256.Idx => ((X.g2 (i 0) : ℝ) : EReal)
  be2 : U0 m c (Proc.devRef .tc main_arg11) = fun i : S256.Idx => X.be2 (i 0)

/-! ## The host's rearrangements of an array -/

/-- The weights' columns for the interpolated features. -/
theorem cols_left (x : S256x768.Idx → EReal) (W : Fin 256 → Fin 768 → ℝ)
    (hx : x = fun i : S256x768.Idx => ((W (i 0) (i 1) : ℝ) : EReal)) (h : S256x768.Slices ![0, 0] S256x512) :
    extractStridedSlice S256x512 ![0, 0] x h = fun i : S256x512.Idx => ((W (i 0) (colA (i 1)) : ℝ) : EReal) := by
  subst hx
  funext i
  refine extractStridedSlice_apply _ _ h i (ix2 (i 0) (colA (i 1))) fun a => ?_
  fin_cases a <;> exact (Nat.zero_add _).symm

/-- The weights' columns for the query points' own features. -/
theorem cols_right (x : S256x768.Idx → EReal) (W : Fin 256 → Fin 768 → ℝ)
    (hx : x = fun i : S256x768.Idx => ((W (i 0) (i 1) : ℝ) : EReal)) (h : S256x768.Slices ![0, 512] S256x256) :
    extractStridedSlice S256x256 ![0, 512] x h = fun i : S256x256.Idx => ((W (i 0) (colB (i 1)) : ℝ) : EReal) := by
  subst hx
  funext i
  refine extractStridedSlice_apply _ _ h i (ix2 (i 0) (colB (i 1))) fun a => ?_
  fin_cases a
  · exact (Nat.zero_add _).symm
  · rfl

/-- The query points with their coordinates as rows. -/
theorem flip_points (x : S16x4096x3.Idx → EReal) (u : Fin 16 → Fin 4096 → Fin 3 → ℝ)
    (hx : x = fun i : S16x4096x3.Idx => ((u (i 0) (i 1) (i 2) : ℝ) : EReal)) (h : S16x4096x3.Transposes [0, 2, 1] S16x3x4096) :
    transpose S16x3x4096 [0, 2, 1] x h = fun i : S16x3x4096.Idx => ((u (i 0) (i 2) (i 1) : ℝ) : EReal) := by
  subst hx
  funext i
  rw [ValueIdx.eq_ix3 i]
  exact transpose_ix3_021_apply _ h _ _ _

/-- A parameter as a column. -/
theorem as_column (x : S256.Idx → EReal) (f : Fin 256 → EReal) (hx : x = fun i : S256.Idx => f (i 0))
    (h : S256.BroadcastsInDim S256x1 ![0]) :
    broadcastInDim S256x1 ![0] h x = fun i : S256x1.Idx => f (i 0) := by
  subst hx
  funext i
  exact broadcastInDim_apply _ h _ i (ix1 (i 0)) fun a => by fin_cases a; rfl

section
variable (m : (g : Loc nD τ sig) → Buf (Elt Ideal) g) (c : Dev nD)

/-! ## Arguments, as each item finds them -/

theorem kept1 (a : Ref sig .tc) (h : a ∈ params) : U1 m c (Proc.devRef .tc a) = U0 m c (Proc.devRef .tc a) := U1_of m c a (par1 a h)
theorem kept2 (a : Ref sig .tc) (h : a ∈ params) : U2 m c (Proc.devRef .tc a) = U0 m c (Proc.devRef .tc a) :=
  (U2_of m c a (par2 a h)).trans (kept1 m c a h)
theorem kept3 (a : Ref sig .tc) (h : a ∈ params) : U3 m c (Proc.devRef .tc a) = U0 m c (Proc.devRef .tc a) :=
  (U3_of m c a (par3 a h)).trans (kept2 m c a h)
theorem kept4 (a : Ref sig .tc) (h : a ∈ params) : U4 m c (Proc.devRef .tc a) = U0 m c (Proc.devRef .tc a) :=
  (U4_of m c a (par4 a h)).trans (kept3 m c a h)
theorem kept5 (a : Ref sig .tc) (h : a ∈ params) : U5 m c (Proc.devRef .tc a) = U0 m c (Proc.devRef .tc a) :=
  (U5_of m c a (par5 a h)).trans (kept4 m c a h)
theorem kept6 (a : Ref sig .tc) (h : a ∈ params) : U6 m c (Proc.devRef .tc a) = U0 m c (Proc.devRef .tc a) :=
  (U6_of m c a (par6 a h)).trans (kept5 m c a h)

/-! ## What the host stretches write -/

theorem host_v0 : U1 m c (Proc.devRef .tc main_v0)
    = extractStridedSlice S256x512 ![0, 0] (U0 m c (Proc.devRef .tc main_arg4)) slices_S256x768_S256x512_0_0 := by
  unfold U1 hostOps0
  after_results
theorem host_v1 : U1 m c (Proc.devRef .tc main_v1)
    = extractStridedSlice S256x256 ![0, 512] (U0 m c (Proc.devRef .tc main_arg4)) slices_S256x768_S256x256_0_512 := by
  unfold U1 hostOps0
  after_results
theorem host_v2 : U1 m c (Proc.devRef .tc main_v2)
    = transpose S16x3x4096 [0, 2, 1] (U0 m c (Proc.devRef .tc main_arg0)) transposes_S16x4096x3_S16x3x4096_0_2_1 := by
  unfold U1 hostOps0
  after_results
theorem host_v4 : U3 m c (Proc.devRef .tc main_v4)
    = broadcastInDim S256x1 ![0] bcast_S256_S256x1_0 (U2 m c (Proc.devRef .tc main_arg5)) := by
  unfold U3 hostOps1
  after_results
theorem host_v5 : U3 m c (Proc.devRef .tc main_v5)
    = broadcastInDim S256x1 ![0] bcast_S256_S256x1_0 (U2 m c (Proc.devRef .tc main_arg6)) := by
  unfold U3 hostOps1
  after_results
theorem host_v6 : U3 m c (Proc.devRef .tc main_v6)
    = broadcastInDim S256x1 ![0] bcast_S256_S256x1_0 (U2 m c (Proc.devRef .tc main_arg7)) := by
  unfold U3 hostOps1
  after_results
theorem host_v8 : U5 m c (Proc.devRef .tc main_v8)
    = broadcastInDim S256x1 ![0] bcast_S256_S256x1_0 (U4 m c (Proc.devRef .tc main_arg10)) := by
  unfold U5 hostOps2
  after_results
theorem host_v9 : U5 m c (Proc.devRef .tc main_v9)
    = broadcastInDim S256x1 ![0] bcast_S256_S256x1_0 (U4 m c (Proc.devRef .tc main_arg11)) := by
  unfold U5 hostOps2
  after_results

end

section
variable {m : (g : Loc nD τ sig) → Buf (Elt Ideal) g} {c : Dev nD} {X : Data} (H : Args m c X)
include H

/-! ## The calls' operands and results -/

theorem kf1_array : U2 m c (Proc.devRef .tc main_v3)
    = fun i : S16x256x1024.Idx => ((kf1 X (i 0) (i 1) (i 2) : ℝ) : EReal) :=
  (U2_arr m c 2).trans (array0 (T1 m) X c ((host_v0 m c).trans (cols_left _ X.W1 H.W1 _))
    ((kept1 m c main_arg3 (by decide)).trans H.kf))

theorem given1 : Given1 (T3 m) X c where
  u := (U3_of m c main_v2 (by decide)).trans <| (U2_of m c main_v2 (by decide +kernel)).trans <|
    (host_v2 m c).trans (flip_points _ X.u H.u _)
  k := (kept3 m c main_arg1 (by decide)).trans H.k
  kf := (U3_of m c main_v3 (by decide)).trans (kf1_array H)
  uf := (kept3 m c main_arg2 (by decide)).trans H.uf
  w := (U3_of m c main_v1 (by decide)).trans <| (U2_of m c main_v1 (by decide +kernel)).trans <|
    (host_v1 m c).trans (cols_right _ X.W1 H.W1 _)
  b := (host_v4 m c).trans (as_column _ (fun o => ((X.b1 o : ℝ) : EReal)) ((kept2 m c main_arg5 (by decide)).trans H.b1) _)
  g := (host_v5 m c).trans (as_column _ (fun o => ((X.g1 o : ℝ) : EReal)) ((kept2 m c main_arg6 (by decide)).trans H.g1) _)
  be := (host_v6 m c).trans (as_column _ (fun o => ((X.be1 o : ℝ) : EReal)) ((kept2 m c main_arg7 (by decide)).trans H.be1) _)

theorem given2 : Given2 (T5 m) X c where
  y := (U5_of m c main_v7_0 (by decide)).trans <| (U4_arr m c 8).trans (array1_y X c (given1 H))
  sc := (U5_of m c main_v7_1 (by decide)).trans <| (U4_arr m c 9).trans (array1_scale X c (given1 H))
  sh := (U5_of m c main_v7_2 (by decide)).trans <| (U4_arr m c 10).trans (array1_shift X c (given1 H))
  w := (kept5 m c main_arg8 (by decide)).trans H.W2
  g := (host_v8 m c).trans (as_column _ (fun o => ((X.g2 o : ℝ) : EReal)) ((kept4 m c main_arg10 (by decide)).trans H.g2) _)
  be := (host_v9 m c).trans (as_column _ X.be2 ((kept4 m c main_arg11 (by decide)).trans H.be2) _)

theorem given3 : Given3 (T6 m) X c where
  y := (U6_of m c main_v7_0 (by decide +kernel)).trans (given2 H).y
  sc := (U6_of m c main_v7_1 (by decide +kernel)).trans (given2 H).sc
  sh := (U6_of m c main_v7_2 (by decide +kernel)).trans (given2 H).sh
  w := (kept6 m c main_arg8 (by decide)).trans H.W2
  sc' := (U6_arr m c 6).trans (array2_scale X c (given2 H))
  sh' := (U6_arr m c 7).trans (array2_shift X c (given2 H))

/-- The kernel's result. -/
theorem result_array : U7 m c (Proc.devRef .tc main_v11) = fun i : S16x256x4096.Idx => out X (i 0) (i 1) (i 2) :=
  (U7_arr m c 6).trans (array3 X c (given3 H))

end

end Cert.KernelIdeal.Hand

end
-- ==== Proof.Finite.lean ====
/- What the precondition says: every entry of the first eleven arguments is a real number. From it the arguments
   as reals. -/
module

public import proofs.«01_k».proof.Defs
public import proofs.«01_k».proof.Proof.Value.Chain
public import Idealize.ShloMosaic.Lib.IdealHost

@[expose] public section

set_option maxRecDepth 16384

noncomputable section

namespace Cert.Proof

open Idealize.ShloMosaic Idealize.ShloMosaic.TcCoe Idealize.ShloMosaic.ValueIdx Cert.Spec

/-- The shapes of the precondition's function. -/
instance facts_finite : Cert.Pre_finite.Facts where
  bcast_S_S16x4096x3 := by decide
  bcast_S_S16x1024x3 := by decide
  bcast_S_S16x256x4096 := by decide
  bcast_S_S16x512x1024 := by decide
  bcast_S_S256x768 := by decide
  bcast_S_S256 := by decide
  bcast_S_S256x256 := by decide

/-- An entry of finite absolute value is a real. -/
theorem real_of_lt {a : EReal} (h : Ideal.cmp .olt (max a (-a)) (Ideal.ofBits .f32 0x7F800000#32) = 1#1) :
    a = ((a.toReal : ℝ) : EReal) := by
  rw [word_inf] at h
  have h' : max a (-a) < ⊤ := by
    by_contra hn
    have : Ideal.cmp .olt (max a (-a)) ⊤ = 0#1 := by
      show BitVec.ofBool (decide (max a (-a) < ⊤)) = 0#1
      rw [decide_eq_false hn]; rfl
    rw [this] at h
    exact absurd h (by decide)
  induction a with
  | bot => exact absurd h' (by simp)
  | top => exact absurd h' (by simp)
  | coe r => rw [EReal.toReal_coe]

theorem real_of_check {s : Shape} (x : FVec Ideal s .f32) (hb : Cert.Pre_finite.S_.BroadcastsInDim s ![])
    (h : cmpf .olt (Host.absf x) (broadcastInDim s ![] hb (constant Cert.Pre_finite.S_ .f32 0x7F800000#32)) = fun _ => 1#1) :
    ∀ i, x i = (((x i).toReal : ℝ) : EReal) := fun i => by
  have e := congrFun h i
  refine real_of_lt (Eq.trans ?_ e)
  show _ = Ideal.cmp .olt (max (x i) (-(x i))) (broadcastInDim s ![] hb (constant (F := Ideal) Cert.Pre_finite.S_ .f32 0x7F800000#32) i)
  rw [broadcastInDim_scalar_apply]
  rfl

/-- The kernel's memory. -/
abbrev Mem : Type := (ℓ : Loc Cert.KernelIdeal.nD Cert.KernelIdeal.τ Cert.KernelIdeal.sig) → Buf (Elt Ideal) ℓ

/-- The arguments as reals. -/
def data (m : Mem) (c : Dev Cert.KernelIdeal.nD) : Data where
  u p q r := ((m ((c.tc : Thread Cert.KernelIdeal.nD Cert.KernelIdeal.τ).loc Cert.KernelIdeal.main_arg0) : FVec Ideal Cert.KernelIdeal.S16x4096x3 .f32) (ValueIdx.ix3 p q r)).toReal
  k p q r := ((m ((c.tc : Thread Cert.KernelIdeal.nD Cert.KernelIdeal.τ).loc Cert.KernelIdeal.main_arg1) : FVec Ideal Cert.KernelIdeal.S16x1024x3 .f32) (ValueIdx.ix3 p q r)).toReal
  uf p q r := ((m ((c.tc : Thread Cert.KernelIdeal.nD Cert.KernelIdeal.τ).loc Cert.KernelIdeal.main_arg2) : FVec Ideal Cert.KernelIdeal.S16x256x4096 .f32) (ValueIdx.ix3 p q r)).toReal
  kf p q r := ((m ((c.tc : Thread Cert.KernelIdeal.nD Cert.KernelIdeal.τ).loc Cert.KernelIdeal.main_arg3) : FVec Ideal Cert.KernelIdeal.S16x512x1024 .f32) (ValueIdx.ix3 p q r)).toReal
  W1 p q := ((m ((c.tc : Thread Cert.KernelIdeal.nD Cert.KernelIdeal.τ).loc Cert.KernelIdeal.main_arg4) : FVec Ideal Cert.KernelIdeal.S256x768 .f32) (ValueIdx.ix2 p q)).toReal
  b1 p := ((m ((c.tc : Thread Cert.KernelIdeal.nD Cert.KernelIdeal.τ).loc Cert.KernelIdeal.main_arg5) : FVec Ideal Cert.KernelIdeal.S256 .f32) (ValueIdx.ix1 p)).toReal
  g1 p := ((m ((c.tc : Thread Cert.KernelIdeal.nD Cert.KernelIdeal.τ).loc Cert.KernelIdeal.main_arg6) : FVec Ideal Cert.KernelIdeal.S256 .f32) (ValueIdx.ix1 p)).toReal
  be1 p := ((m ((c.tc : Thread Cert.KernelIdeal.nD Cert.KernelIdeal.τ).loc Cert.KernelIdeal.main_arg7) : FVec Ideal Cert.KernelIdeal.S256 .f32) (ValueIdx.ix1 p)).toReal
  W2 p q := ((m ((c.tc : Thread Cert.KernelIdeal.nD Cert.KernelIdeal.τ).loc Cert.KernelIdeal.main_arg8) : FVec Ideal Cert.KernelIdeal.S256x256 .f32) (ValueIdx.ix2 p q)).toReal
  b2 p := ((m ((c.tc : Thread Cert.KernelIdeal.nD Cert.KernelIdeal.τ).loc Cert.KernelIdeal.main_arg9) : FVec Ideal Cert.KernelIdeal.S256 .f32) (ValueIdx.ix1 p)).toReal
  g2 p := ((m ((c.tc : Thread Cert.KernelIdeal.nD Cert.KernelIdeal.τ).loc Cert.KernelIdeal.main_arg10) : FVec Ideal Cert.KernelIdeal.S256 .f32) (ValueIdx.ix1 p)).toReal
  be2 p := (m ((c.tc : Thread Cert.KernelIdeal.nD Cert.KernelIdeal.τ).loc Cert.KernelIdeal.main_arg11) : FVec Ideal Cert.KernelIdeal.S256 .f32) (ValueIdx.ix1 p)

/-- Under the precondition the arguments are those reals. -/
theorem args_real (m : Mem) (h : Cert.Pre_KernelIdeal_finite m) (c : Dev Cert.KernelIdeal.nD) :
    Cert.KernelIdeal.Hand.Args m c (data m c) where
  u := by
    funext i
    refine (real_of_check (m ((c.tc : Thread Cert.KernelIdeal.nD Cert.KernelIdeal.τ).loc Cert.KernelIdeal.main_arg0) : FVec Ideal Cert.KernelIdeal.S16x4096x3 .f32) _ (h c).1 i).trans ?_
    exact congrArg (fun j => (((m ((c.tc : Thread Cert.KernelIdeal.nD Cert.KernelIdeal.τ).loc Cert.KernelIdeal.main_arg0) : FVec Ideal Cert.KernelIdeal.S16x4096x3 .f32) j).toReal : EReal)) (ValueIdx.eq_ix3 i)
  k := by
    funext i
    refine (real_of_check (m ((c.tc : Thread Cert.KernelIdeal.nD Cert.KernelIdeal.τ).loc Cert.KernelIdeal.main_arg1) : FVec Ideal Cert.KernelIdeal.S16x1024x3 .f32) _ (h c).2.1 i).trans ?_
    exact congrArg (fun j => (((m ((c.tc : Thread Cert.KernelIdeal.nD Cert.KernelIdeal.τ).loc Cert.KernelIdeal.main_arg1) : FVec Ideal Cert.KernelIdeal.S16x1024x3 .f32) j).toReal : EReal)) (ValueIdx.eq_ix3 i)
  uf := by
    funext i
    refine (real_of_check (m ((c.tc : Thread Cert.KernelIdeal.nD Cert.KernelIdeal.τ).loc Cert.KernelIdeal.main_arg2) : FVec Ideal Cert.KernelIdeal.S16x256x4096 .f32) _ (h c).2.2.1 i).trans ?_
    exact congrArg (fun j => (((m ((c.tc : Thread Cert.KernelIdeal.nD Cert.KernelIdeal.τ).loc Cert.KernelIdeal.main_arg2) : FVec Ideal Cert.KernelIdeal.S16x256x4096 .f32) j).toReal : EReal)) (ValueIdx.eq_ix3 i)
  kf := by
    funext i
    refine (real_of_check (m ((c.tc : Thread Cert.KernelIdeal.nD Cert.KernelIdeal.τ).loc Cert.KernelIdeal.main_arg3) : FVec Ideal Cert.KernelIdeal.S16x512x1024 .f32) _ (h c).2.2.2.1 i).trans ?_
    exact congrArg (fun j => (((m ((c.tc : Thread Cert.KernelIdeal.nD Cert.KernelIdeal.τ).loc Cert.KernelIdeal.main_arg3) : FVec Ideal Cert.KernelIdeal.S16x512x1024 .f32) j).toReal : EReal)) (ValueIdx.eq_ix3 i)
  W1 := by
    funext i
    refine (real_of_check (m ((c.tc : Thread Cert.KernelIdeal.nD Cert.KernelIdeal.τ).loc Cert.KernelIdeal.main_arg4) : FVec Ideal Cert.KernelIdeal.S256x768 .f32) _ (h c).2.2.2.2.1 i).trans ?_
    exact congrArg (fun j => (((m ((c.tc : Thread Cert.KernelIdeal.nD Cert.KernelIdeal.τ).loc Cert.KernelIdeal.main_arg4) : FVec Ideal Cert.KernelIdeal.S256x768 .f32) j).toReal : EReal)) (ValueIdx.eq_ix2 i)
  b1 := by
    funext i
    refine (real_of_check (m ((c.tc : Thread Cert.KernelIdeal.nD Cert.KernelIdeal.τ).loc Cert.KernelIdeal.main_arg5) : FVec Ideal Cert.KernelIdeal.S256 .f32) _ (h c).2.2.2.2.2.1 i).trans ?_
    exact congrArg (fun j => (((m ((c.tc : Thread Cert.KernelIdeal.nD Cert.KernelIdeal.τ).loc Cert.KernelIdeal.main_arg5) : FVec Ideal Cert.KernelIdeal.S256 .f32) j).toReal : EReal)) (ValueIdx.eq_ix1 i)
  g1 := by
    funext i
    refine (real_of_check (m ((c.tc : Thread Cert.KernelIdeal.nD Cert.KernelIdeal.τ).loc Cert.KernelIdeal.main_arg6) : FVec Ideal Cert.KernelIdeal.S256 .f32) _ (h c).2.2.2.2.2.2.1 i).trans ?_
    exact congrArg (fun j => (((m ((c.tc : Thread Cert.KernelIdeal.nD Cert.KernelIdeal.τ).loc Cert.KernelIdeal.main_arg6) : FVec Ideal Cert.KernelIdeal.S256 .f32) j).toReal : EReal)) (ValueIdx.eq_ix1 i)
  be1 := by
    funext i
    refine (real_of_check (m ((c.tc : Thread Cert.KernelIdeal.nD Cert.KernelIdeal.τ).loc Cert.KernelIdeal.main_arg7) : FVec Ideal Cert.KernelIdeal.S256 .f32) _ (h c).2.2.2.2.2.2.2.1 i).trans ?_
    exact congrArg (fun j => (((m ((c.tc : Thread Cert.KernelIdeal.nD Cert.KernelIdeal.τ).loc Cert.KernelIdeal.main_arg7) : FVec Ideal Cert.KernelIdeal.S256 .f32) j).toReal : EReal)) (ValueIdx.eq_ix1 i)
  W2 := by
    funext i
    refine (real_of_check (m ((c.tc : Thread Cert.KernelIdeal.nD Cert.KernelIdeal.τ).loc Cert.KernelIdeal.main_arg8) : FVec Ideal Cert.KernelIdeal.S256x256 .f32) _ (h c).2.2.2.2.2.2.2.2.1 i).trans ?_
    exact congrArg (fun j => (((m ((c.tc : Thread Cert.KernelIdeal.nD Cert.KernelIdeal.τ).loc Cert.KernelIdeal.main_arg8) : FVec Ideal Cert.KernelIdeal.S256x256 .f32) j).toReal : EReal)) (ValueIdx.eq_ix2 i)
  b2 := by
    funext i
    refine (real_of_check (m ((c.tc : Thread Cert.KernelIdeal.nD Cert.KernelIdeal.τ).loc Cert.KernelIdeal.main_arg9) : FVec Ideal Cert.KernelIdeal.S256 .f32) _ (h c).2.2.2.2.2.2.2.2.2.1 i).trans ?_
    exact congrArg (fun j => (((m ((c.tc : Thread Cert.KernelIdeal.nD Cert.KernelIdeal.τ).loc Cert.KernelIdeal.main_arg9) : FVec Ideal Cert.KernelIdeal.S256 .f32) j).toReal : EReal)) (ValueIdx.eq_ix1 i)
  g2 := by
    funext i
    refine (real_of_check (m ((c.tc : Thread Cert.KernelIdeal.nD Cert.KernelIdeal.τ).loc Cert.KernelIdeal.main_arg10) : FVec Ideal Cert.KernelIdeal.S256 .f32) _ (h c).2.2.2.2.2.2.2.2.2.2 i).trans ?_
    exact congrArg (fun j => (((m ((c.tc : Thread Cert.KernelIdeal.nD Cert.KernelIdeal.τ).loc Cert.KernelIdeal.main_arg10) : FVec Ideal Cert.KernelIdeal.S256 .f32) j).toReal : EReal)) (ValueIdx.eq_ix1 i)
  be2 := by
    funext i
    exact congrArg (m ((c.tc : Thread Cert.KernelIdeal.nD Cert.KernelIdeal.τ).loc Cert.KernelIdeal.main_arg11) : FVec Ideal Cert.KernelIdeal.S256 .f32) (ValueIdx.eq_ix1 i)

end Cert.Proof

end
-- ==== Proof.Value.RefOps.lean ====
/- The reference's operations at an index: sums along the last axis and over batches and points, the sort that
   lists the three nearest points, the gather of their features, and the three contractions.

   Each lemma takes the operand's entries as reals and gives the result's entry as a real. -/
module

public import proofs.«01_k».proof.Proof.Value.Ops
public import proofs.«01_k».proof.Proof.Gen.ReferenceIdeal.Run
public import Idealize.ShloMosaic.Lib.IdealHost
public import Idealize.ShloMosaic.Lib.SortFacts

@[expose] public section

set_option maxRecDepth 16384

noncomputable section

namespace Cert.ReferenceIdeal.Hand

open Cert.ReferenceIdeal Cert.ReferenceIdeal.Gen Cert.Spec
open Idealize.ShloMosaic
open Idealize.ShloMosaic.ValueIdx

/-! ## Sums -/

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext e; apply Fin.ext
  fin_cases e <;> rfl

theorem lift_last4 {a b c d : ℕ} (h : (⟨4, ![a, b, c, d]⟩ : Shape).Reduces [3] (⟨3, ![a, b, c]⟩ : Shape)) (p : Fin a)
    (q : Fin b) (r : Fin c) (k : Fin ((⟨4, ![a, b, c, d]⟩ : Shape).size 3)) :
    h.lift (ix3 p q r) k = ix4 p q r (⟨k.val, k.isLt⟩ : Fin d) := by
  funext e; apply Fin.ext
  fin_cases e <;> rfl

/-- The sum along the last of three axes. -/
theorem sum_last3 {a b c : ℕ} (x : FVec Ideal ⟨3, ![a, b, c]⟩ .f32) (f : Fin c → ℝ)
    (h : (⟨3, ![a, b, c]⟩ : Shape).ReducesTo [2] (⟨2, ![a, b]⟩ : Shape)) (hu : 0 < S_.numel) (p : Fin a) (q : Fin b)
    (hx : ∀ k, x (ix3 p q k) = (f k : EReal)) :
    Host.reduceAdd x (constant (F := Ideal) S_ .f32 0x00000000#32) h hu (ix2 p q) = ((∑ k, f k : ℝ) : EReal) := by
  rw [hostReduceAdd_apply, Ideal.hostReduceAdd_single h ⟨h.1, two_pos, h.2⟩]
  show Ideal.ofBits .f32 0x00000000#32 + _ = _
  rw [word_zero, zero_add]
  exact sum_real fun k => (congrArg x (lift_last3 _ p q k)).trans (hx k)

/-- The sum along the last of four axes. -/
theorem sum_last4 {a b c d : ℕ} (x : FVec Ideal ⟨4, ![a, b, c, d]⟩ .f32) (f : Fin d → ℝ)
    (h : (⟨4, ![a, b, c, d]⟩ : Shape).ReducesTo [3] (⟨3, ![a, b, c]⟩ : Shape)) (hu : 0 < S_.numel) (p : Fin a)
    (q : Fin b) (r : Fin c) (hx : ∀ k, x (ix4 p q r k) = (f k : EReal)) :
    Host.reduceAdd x (constant (F := Ideal) S_ .f32 0x00000000#32) h hu (ix3 p q r) = ((∑ k, f k : ℝ) : EReal) := by
  rw [hostReduceAdd_apply, Ideal.hostReduceAdd_single h ⟨h.1, three_pos, h.2⟩]
  show Ideal.ofBits .f32 0x00000000#32 + _ = _
  rw [word_zero, zero_add]
  exact sum_real fun k => (congrArg x (lift_last4 _ p q r k)).trans (hx k)

theorem drop_mid (h : S16x256x4096.ReducesTo [0, 2] S256) (i : S16x256x4096.Idx) (o : Fin 256) :
    h.drop i = ix1 o ↔ i 1 = o := by
  constructor
  · intro e
    exact Fin.ext (show ((h.drop i) 0).val = o.val from congrArg (fun j : S256.Idx => (j 0).val) e)
  · intro e
    funext a
    apply Fin.ext
    fin_cases a
    exact congrArg Fin.val e

/-- The sum over batches and points, at a channel. -/
theorem sum_mid (x : FVec Ideal S16x256x4096 .f32) (f : Fin 16 → Fin 256 → Fin 4096 → ℝ)
    (h : S16x256x4096.ReducesTo [0, 2] S256) (hu : 0 < S_.numel) (o : Fin 256)
    (hx : ∀ b n, x (ix3 b o n) = (f b o n : EReal)) :
    Host.reduceAdd x (constant (F := Ideal) S_ .f32 0x00000000#32) h hu (ix1 o) = (tot (fun b n => f b o n) : EReal) := by
  rw [hostReduceAdd_apply]
  unfold Ideal.hostReduceAdd
  show Ideal.ofBits .f32 0x00000000#32 + _ = _
  rw [word_zero, zero_add]
  have e : ∑ i ∈ Finset.univ.filter (fun i : S16x256x4096.Idx => h.drop i = ix1 o), x i
      = ∑ p : Fin 16 × Fin 4096, x (ix3 p.1 o p.2) := by
    refine Finset.sum_nbij' (fun i => ((i 0, i 2) : Fin 16 × Fin 4096)) (fun p => ix3 p.1 o p.2) ?_ ?_ ?_ ?_ ?_
    · intro i _; exact Finset.mem_univ _
    · intro p _
      exact Finset.mem_filter.mpr ⟨Finset.mem_univ _, (drop_mid h _ o).mpr rfl⟩
    · intro i hi
      have e1 : i 1 = o := (drop_mid h i o).mp (Finset.mem_filter.mp hi).2
      show ix3 (i 0) o (i 2) = i
      rw [← e1]
      exact (ValueIdx.eq_ix3 i).symm
    · intro p _; rfl
    · intro i hi
      have e1 : i 1 = o := (drop_mid h i o).mp (Finset.mem_filter.mp hi).2
      refine congrArg x ?_
      show i = ix3 (i 0) o (i 2)
      rw [← e1]
      exact ValueIdx.eq_ix3 i
  refine e.trans ?_
  rw [Fintype.sum_prod_type]
  unfold tot
  rw [← coe_sum]
  refine Finset.sum_congr rfl fun b _ => ?_
  exact sum_real fun n => hx b n

/-! ## The three nearest points -/

theorem gt_neg (a b : ℝ) :
    (FloatOps.cmpfTotal (F := Ideal) (φ := .f32) .gt ((-a : ℝ) : EReal) ((-b : ℝ) : EReal) == 1#1) = decide (a < b) := by
  show (BitVec.ofBool (decide (((-b : ℝ) : EReal) < ((-a : ℝ) : EReal))) == 1#1) = decide (a < b)
  have e : (((-b : ℝ) : EReal) < ((-a : ℝ) : EReal)) ↔ a < b := by
    rw [EReal.coe_lt_coe_iff]; exact neg_lt_neg_iff
  by_cases h : a < b
  · rw [decide_eq_true h, decide_eq_true (e.mpr h)]; rfl
  · rw [decide_eq_false h, decide_eq_false (fun h' => h (e.mp h'))]; rfl

/-- Equal orders sort alike. -/
theorem sorted_congr {p q : Fin 1024 → Fin 1024 → Bool} (e : ∀ k k', p k k' = q k k') {i j : Fin 1024}
    (hij : i = j) : sortedFrom p i = sortedFrom q j := by
  rw [show p = q from funext fun k => funext fun k' => e k k', hij]

theorem along_last (b : Fin 16) (n : Fin 4096) (m k : Fin 1024) :
    Shape.Idx.along (s := S16x4096x1024) (ix3 b n m) (2 : Fin 3) k = ix3 b n k := by
  funext a
  fin_cases a <;> rfl

/-- The first three entries of a row. -/
theorem head_apply {α : Type} (y : S16x4096x1024.Idx → α) (h : S16x4096x1024.Slices (fun _ => 0) S16x4096x3)
    (b : Fin 16) (n : Fin 4096) (j : Fin 3) :
    extractStridedSlice S16x4096x3 (fun _ => 0) y h (ix3 b n j) = y (ix3 b n (⟨j.val, j.isLt.trans (by decide)⟩ : Fin 1024)) := by
  unfold extractStridedSlice
  refine congrArg y ?_
  funext a; apply Fin.ext
  fin_cases a <;> exact Nat.zero_add _

/-- A sort of two operands along the last axis, at an index. -/
theorem sort_apply {α β : Type} (cmp : α × β → α × β → BitVec 1) (x : S16x4096x1024.Idx → α)
    (y : S16x4096x1024.Idx → β) (b : Fin 16) (n : Fin 4096) (m : Fin 1024) (q : Fin 1024 → Fin 1024 → Bool)
    (hq : ∀ k k', (cmp (x (ix3 b n k), y (ix3 b n k)) (x (ix3 b n k'), y (ix3 b n k')) == 1#1) = q k k') :
    (Host.sort2 S16x4096x1024 2 cmp x y).1 (ix3 b n m) = x (ix3 b n (sortedFrom q m))
      ∧ (Host.sort2 S16x4096x1024 2 cmp x y).2 (ix3 b n m) = y (ix3 b n (sortedFrom q m)) := by
  have e : sortedFrom (fun k k' : Fin 1024 => cmp (x (Shape.Idx.along (s := S16x4096x1024) (ix3 b n m) (2 : Fin 3) k),
        y (Shape.Idx.along (s := S16x4096x1024) (ix3 b n m) (2 : Fin 3) k))
        (x (Shape.Idx.along (s := S16x4096x1024) (ix3 b n m) (2 : Fin 3) k'),
        y (Shape.Idx.along (s := S16x4096x1024) (ix3 b n m) (2 : Fin 3) k')) == 1#1) m = sortedFrom q m :=
    sorted_congr (fun k k' => by rw [along_last, along_last]; exact hq k k') rfl
  unfold Host.sort2
  rw [dif_pos (show 2 < S16x4096x1024.rank by decide)]
  constructor
  · exact (congrArg (fun k => x (Shape.Idx.along (s := S16x4096x1024) (ix3 b n m) (2 : Fin 3) k)) e).trans
      (congrArg x (along_last b n m _))
  · exact (congrArg (fun k => y (Shape.Idx.along (s := S16x4096x1024) (ix3 b n m) (2 : Fin 3) k)) e).trans
      (congrArg y (along_last b n m _))

/-- The greatest three of negated distances: their values and their positions. -/
theorem top_apply (x : FVec Ideal S16x4096x1024 .f32) (d : Fin 1024 → ℝ) (b : Fin 16) (n : Fin 4096)
    (hx : ∀ m, x (ix3 b n m) = ((-(d m) : ℝ) : EReal)) (h : S16x4096x1024.Slices (fun _ => 0) S16x4096x3) (j : Fin 3) :
    (Host.topK S16x4096x3 2 (FloatOps.cmpfTotal (F := Ideal) .gt) x h).1 (ix3 b n j) = ((-(d (pick d j)) : ℝ) : EReal)
      ∧ (Host.topK S16x4096x3 2 (FloatOps.cmpfTotal (F := Ideal) .gt) x h).2 (ix3 b n j)
        = BitVec.ofNat 32 (pick d j).val := by
  have s := fun y => sort_apply (α := Ideal .f32) (β := BitVec 32) (fun l r => FloatOps.cmpfTotal (F := Ideal) .gt l.1 r.1) x y b n
    ⟨j.val, j.isLt.trans (by decide)⟩ (nearer d) (fun k k' => by
      show (FloatOps.cmpfTotal (F := Ideal) (φ := .f32) .gt (x (ix3 b n k)) (x (ix3 b n k')) == 1#1) = _
      rw [hx, hx]; exact gt_neg _ _)
  rw [pick_eq]
  have s' := s fun i => if hd : 2 < S16x4096x1024.rank then iotaInDim S16x4096x1024 32 ⟨2, hd⟩ i else 0#32
  exact ⟨(head_apply _ h b n j).trans (s'.1.trans (hx _)), (head_apply _ h b n j).trans (s'.2.trans rfl)⟩

/-! ## The gather of their features -/

theorem gather_apply {α : Type} (x : S16x512x1024.Idx → α) (idx : IVec S16x4096x3x1 32) (b : Fin 16) (c : Fin 512)
    (n : Fin 4096) (j : Fin 3) (m : Fin 1024) (hm : idx (ix4 b n j (0 : Fin 1)) = BitVec.ofNat 32 m.val) :
    Host.gather gather_S16x512x1024_S16x4096x3x1_S16x512x4096x3_1_2_0_0_2_3_15121 x idx (ix4 b c n j)
      = x (ix3 b c m) := by
  unfold Host.gather
  congr 1
  funext a
  refine Fin.ext ?_
  show GatherDims.start _ (ix4 b c n j) idx a + GatherDims.batchCoord _ (ix4 b c n j) a
    + GatherDims.offCoord _ (ix4 b c n j) a = _
  have hsi : ∀ h, gather_S16x512x1024_S16x4096x3x1_S16x512x4096x3_1_2_0_0_2_3_15121.siIdx (ix4 b c n j) ⟨0, h⟩
      = ix4 b n j (0 : Fin 1) := fun h => by
    funext e; refine Fin.ext ?_
    fin_cases e <;> rfl
  have hmt : min (BitVec.ofNat 32 m.val).toInt.toNat 1023 = m.val := by
    have := m.isLt
    rw [BitVec.toInt_eq_toNat_of_lt (by rw [BitVec.toNat_ofNat]; omega), BitVec.toNat_ofNat]
    omega
  match a with
  | ⟨0, _⟩ => exact (Nat.add_zero _).trans (Nat.zero_add _)
  | ⟨1, _⟩ => exact (Nat.zero_add _)
  | ⟨2, _⟩ =>
    refine Eq.trans (b := min (idx (ix4 b n j (0 : Fin 1))).toInt.toNat 1023) ?_ ?_
    · show min (idx (GatherDims.siIdx _ (ix4 b c n j) ⟨0, _⟩)).toInt.toNat 1023 = _
      exact congrArg (fun i => min (idx i).toInt.toNat 1023) (hsi _)
    · rw [hm]; exact hmt

/-! ## The contractions -/

/-- The inner products of query and known points. -/
theorem dot_dist (x : FVec Ideal S16x4096x3 .f32) (y : FVec Ideal S16x1024x3 .f32) (f g : Fin 3 → ℝ) (b : Fin 16)
    (n : Fin 4096) (m : Fin 1024) (hx : ∀ d, x (ix3 b n d) = (f d : EReal)) (hy : ∀ d, y (ix3 b m d) = (g d : EReal)) :
    Host.dotGeneral dot_S16x4096x3_S16x1024x3_S16x4096x1024_2_2_1_1_0_0 none x y (ix3 b n m)
      = ((∑ d, f d * g d : ℝ) : EReal) := by
  unfold Host.dotGeneral
  rw [Ideal.dotGeneral_apply, ← (contrEquiv1 dot_S16x4096x3_S16x1024x3_S16x4096x1024_2_2_1_1_0_0 3 rfl rfl).symm.sum_comp]
  refine sum_real fun d => ?_
  rw [EReal.coe_mul, ← hx d, ← hy d]
  congr 2 <;> (funext e; refine Fin.ext ?_; fin_cases e <;> rfl)

/-- The first layer's products. -/
theorem dot_first (x : FVec Ideal S16x768x4096 .f32) (y : FVec Ideal S256x768 .f32) (f g : Fin 768 → ℝ) (b : Fin 16)
    (n : Fin 4096) (o : Fin 256) (hx : ∀ c, x (ix3 b c n) = (f c : EReal)) (hy : ∀ c, y (ix2 o c) = (g c : EReal)) :
    Host.dotGeneral dot_S16x768x4096_S256x768_S16x4096x256_1_1_02_0_n_n none x y (ix3 b n o)
      = ((∑ c, f c * g c : ℝ) : EReal) := by
  unfold Host.dotGeneral
  rw [Ideal.dotGeneral_apply, ← (contrEquiv1 dot_S16x768x4096_S256x768_S16x4096x256_1_1_02_0_n_n 768 rfl rfl).symm.sum_comp]
  refine sum_real fun d => ?_
  rw [EReal.coe_mul, ← hx d, ← hy d]
  congr 2 <;> (funext e; refine Fin.ext ?_; fin_cases e <;> rfl)

/-- The second layer's products. -/
theorem dot_second (x : FVec Ideal S16x256x4096 .f32) (y : FVec Ideal S256x256 .f32) (f g : Fin 256 → ℝ) (b : Fin 16)
    (n : Fin 4096) (o : Fin 256) (hx : ∀ c, x (ix3 b c n) = (f c : EReal)) (hy : ∀ c, y (ix2 o c) = (g c : EReal)) :
    Host.dotGeneral dot_S16x256x4096_S256x256_S16x4096x256_1_1_02_0_n_n none x y (ix3 b n o)
      = ((∑ c, f c * g c : ℝ) : EReal) := by
  unfold Host.dotGeneral
  rw [Ideal.dotGeneral_apply, ← (contrEquiv1 dot_S16x256x4096_S256x256_S16x4096x256_1_1_02_0_n_n 256 rfl rfl).symm.sum_comp]
  refine sum_real fun d => ?_
  rw [EReal.coe_mul, ← hx d, ← hy d]
  congr 2 <;> (funext e; refine Fin.ext ?_; fin_cases e <;> rfl)

end Cert.ReferenceIdeal.Hand

end
-- ==== Proof.Value.RefFirst.lean ====
/- The reference's first layer over the reals: the negated distances, the three nearest points and their weights,
   the interpolated features, and the first layer's values. -/
module

public import proofs.«01_k».proof.Proof.Value.RefOps

@[expose] public section

set_option maxRecDepth 16384

noncomputable section

namespace Cert.ReferenceIdeal.Hand

open Cert.ReferenceIdeal Cert.ReferenceIdeal.Gen Cert.ReferenceIdeal.Value Cert.Spec
open Idealize.ShloMosaic
open Idealize.ShloMosaic.ValueIdx Idealize.ShloMosaic.TcCoe

/-- The reference's arguments are the reals of `X`. -/
structure Args (V : Valuation τ sig (Elt Ideal)) (X : Data) : Prop where
  u : ∀ b n d, (V (Proc.devRef .tc main_arg0) : FVec Ideal S16x4096x3 .f32) (ix3 b n d) = (X.u b n d : EReal)
  k : ∀ b m d, (V (Proc.devRef .tc main_arg1) : FVec Ideal S16x1024x3 .f32) (ix3 b m d) = (X.k b m d : EReal)
  uf : ∀ b c n, (V (Proc.devRef .tc main_arg2) : FVec Ideal S16x256x4096 .f32) (ix3 b c n) = (X.uf b c n : EReal)
  kf : ∀ b c m, (V (Proc.devRef .tc main_arg3) : FVec Ideal S16x512x1024 .f32) (ix3 b c m) = (X.kf b c m : EReal)
  W1 : ∀ o c, (V (Proc.devRef .tc main_arg4) : FVec Ideal S256x768 .f32) (ix2 o c) = (X.W1 o c : EReal)
  b1 : ∀ o, (V (Proc.devRef .tc main_arg5) : FVec Ideal S256 .f32) (ix1 o) = (X.b1 o : EReal)
  g1 : ∀ o, (V (Proc.devRef .tc main_arg6) : FVec Ideal S256 .f32) (ix1 o) = (X.g1 o : EReal)
  be1 : ∀ o, (V (Proc.devRef .tc main_arg7) : FVec Ideal S256 .f32) (ix1 o) = (X.be1 o : EReal)
  W2 : ∀ o c, (V (Proc.devRef .tc main_arg8) : FVec Ideal S256x256 .f32) (ix2 o c) = (X.W2 o c : EReal)
  b2 : ∀ o, (V (Proc.devRef .tc main_arg9) : FVec Ideal S256 .f32) (ix1 o) = (X.b2 o : EReal)
  g2 : ∀ o, (V (Proc.devRef .tc main_arg10) : FVec Ideal S256 .f32) (ix1 o) = (X.g2 o : EReal)
  be2 : ∀ o, (V (Proc.devRef .tc main_arg11) : FVec Ideal S256 .f32) (ix1 o) = X.be2 o

/-! ## Broadcasts -/

/-- One value per query point, read at any known point. -/
theorem bc_query {α : Type} (x : S16x4096.Idx → α) (b : Fin 16) (n : Fin 4096) (m : Fin 1024) :
    broadcastInDim S16x4096x1024 ![0, 1, 2] bcast_S16x4096x1_S16x4096x1024_0_1_2
      (broadcastInDim S16x4096x1 ![0, 1] bcast_S16x4096_S16x4096x1_0_1 x) (ix3 b n m) = x (ix2 b n) :=
  (broadcastInDim_apply _ _ _ _ (ix3 b n (0 : Fin 1)) fun a => by fin_cases a <;> rfl).trans
    (broadcastInDim_apply _ _ _ _ (ix2 b n) fun a => by fin_cases a <;> rfl)

/-- One value per query point, read at any of the three. -/
theorem bc_three {α : Type} (x : S16x4096.Idx → α) (b : Fin 16) (n : Fin 4096) (j : Fin 3) :
    broadcastInDim S16x4096x3 ![0, 1, 2] bcast_S16x4096x1_S16x4096x3_0_1_2
      (broadcastInDim S16x4096x1 ![0, 1] bcast_S16x4096_S16x4096x1_0_1 x) (ix3 b n j) = x (ix2 b n) :=
  (broadcastInDim_apply _ _ _ _ (ix3 b n (0 : Fin 1)) fun a => by fin_cases a <;> rfl).trans
    (broadcastInDim_apply _ _ _ _ (ix2 b n) fun a => by fin_cases a <;> rfl)

/-- One value per known point, read at any query point. -/
theorem bc_known {α : Type} (x : S16x1024.Idx → α) (b : Fin 16) (n : Fin 4096) (m : Fin 1024) :
    broadcastInDim S16x4096x1024 ![0, 1, 2] bcast_S16x1x1024_S16x4096x1024_0_1_2
      (broadcastInDim S16x1x1024 ![0, 2] bcast_S16x1024_S16x1x1024_0_2 x) (ix3 b n m) = x (ix2 b m) :=
  (broadcastInDim_apply _ _ _ _ (ix3 b (0 : Fin 1) m) fun a => by fin_cases a <;> rfl).trans
    (broadcastInDim_apply _ _ _ _ (ix2 b m) fun a => by fin_cases a <;> rfl)

/-- The weights, read at any feature. -/
theorem bc_weight {α : Type} (x : S16x4096x3.Idx → α) (b : Fin 16) (c : Fin 512) (n : Fin 4096) (j : Fin 3) :
    broadcastInDim S16x512x4096x3 ![0, 1, 2, 3] bcast_S16x1x4096x3_S16x512x4096x3_0_1_2_3
      (broadcastInDim S16x1x4096x3 ![0, 2, 3] bcast_S16x4096x3_S16x1x4096x3_0_2_3 x) (ix4 b c n j) = x (ix3 b n j) :=
  (broadcastInDim_apply _ _ _ _ (ix4 b (0 : Fin 1) n j) fun a => by fin_cases a <;> rfl).trans
    (broadcastInDim_apply _ _ _ _ (ix3 b n j) fun a => by fin_cases a <;> rfl)

/-- The positions as a column of start indices. -/
theorem bc_start {α : Type} (x : S16x4096x3.Idx → α) (b : Fin 16) (n : Fin 4096) (j : Fin 3) :
    broadcastInDim S16x4096x3x1 ![0, 1, 2] bcast_S16x4096x3_S16x4096x3x1_0_1_2 x (ix4 b n j (0 : Fin 1)) = x (ix3 b n j) :=
  broadcastInDim_apply _ _ _ _ (ix3 b n j) fun a => by fin_cases a <;> rfl

/-- One value per channel. -/
theorem bc_chan {α : Type} (x : S1x256x1.Idx → α) (b : Fin 16) (o : Fin 256) (n : Fin 4096) :
    broadcastInDim S16x256x4096 ![0, 1, 2] bcast_S1x256x1_S16x256x4096_0_1_2 x (ix3 b o n)
      = x (ix3 (0 : Fin 1) o (0 : Fin 1)) :=
  broadcastInDim_apply _ _ _ _ (ix3 (0 : Fin 1) o (0 : Fin 1)) fun a => by fin_cases a <;> rfl

theorem bc_row {α : Type} (x : S256.Idx → α) (o : Fin 256) :
    broadcastInDim S1x256x1 ![1] bcast_S256_S1x256x1_1 x (ix3 (0 : Fin 1) o (0 : Fin 1)) = x (ix1 o) :=
  broadcastInDim_apply _ _ _ _ (ix1 o) fun a => by fin_cases a; rfl

theorem bc_par {α : Type} (x : S256.Idx → α) (b : Fin 16) (o : Fin 256) (n : Fin 4096) :
    broadcastInDim S16x256x4096 ![0, 1, 2] bcast_S1x256x1_S16x256x4096_0_1_2
      (broadcastInDim S1x256x1 ![1] bcast_S256_S1x256x1_1 x) (ix3 b o n) = x (ix1 o) :=
  (bc_chan _ b o n).trans (bc_row x o)

/-! ## Elementwise operations -/

theorem hneg_apply {s : Shape} (a : FVec Ideal s .f32) (i : s.Idx) : Host.negf a i = -(a i) := rfl
theorem hdiv_apply {s : Shape} (a b : FVec Ideal s .f32) (i : s.Idx) : Host.divf a b i = Ideal.div (a i) (b i) := rfl
theorem hsqrt_apply {s : Shape} (a : FVec Ideal s .f32) (i : s.Idx) : Host.sqrt a i = Ideal.sqrt (a i) := rfl

/-- A choice where the condition is false, and where it is true. -/
theorem select_no {s : Shape} {α : Type} (p : IVec s 1) (a b : s.Idx → α) (i : s.Idx) (h : p i = 0#1) :
    select p a b i = b i := by
  unfold select
  exact if_neg (by rw [h]; decide)
theorem select_yes {s : Shape} {α : Type} (p : IVec s 1) (a b : s.Idx → α) (i : s.Idx) (h : p i = 1#1) :
    select p a b i = a i := by
  unfold select
  exact if_pos h

/-! ## The nearest points -/

/-- The negated distances. -/
theorem neg_dist_apply (X : Data) (a0 : FVec Ideal S16x4096x3 .f32) (a1 : FVec Ideal S16x1024x3 .f32)
    (h0 : ∀ b n d, a0 (ix3 b n d) = (X.u b n d : EReal)) (h1 : ∀ b m d, a1 (ix3 b m d) = (X.k b m d : EReal))
    (b : Fin 16) (n : Fin 4096) (m : Fin 1024) :
    Host.negf (subf (addf (broadcastInDim S16x4096x1024 ![0, 1, 2] bcast_S16x4096x1_S16x4096x1024_0_1_2 (broadcastInDim S16x4096x1 ![0, 1] bcast_S16x4096_S16x4096x1_0_1 (Host.reduceAdd (mulf a0 a0) (constant (F := Ideal) S_ .f32 0x00000000#32) reducesTo_S16x4096x3_S16x4096_d2 h_S_)))
      (broadcastInDim S16x4096x1024 ![0, 1, 2] bcast_S16x1x1024_S16x4096x1024_0_1_2 (broadcastInDim S16x1x1024 ![0, 2] bcast_S16x1024_S16x1x1024_0_2 (Host.reduceAdd (mulf a1 a1) (constant (F := Ideal) S_ .f32 0x00000000#32) reducesTo_S16x1024x3_S16x1024_d2 h_S_))))
      (mulf (broadcastInDim S16x4096x1024 ![] bcast_S_S16x4096x1024 (constant (F := Ideal) S_ .f32 0x40000000#32)) (Host.dotGeneral dot_S16x4096x3_S16x1024x3_S16x4096x1024_2_2_1_1_0_0 none a0 a1)))
      (ix3 b n m) = ((-(dist X b n m) : ℝ) : EReal) := by
  rw [hneg_apply, ValueIdx.subf_apply, ValueIdx.addf_apply, ValueIdx.mulf_apply, bc_query, bc_known, broadcastInDim_scalar_apply,
    sum_last3 _ (fun d => X.u b n d * X.u b n d) _ _ b n (fun d => by
      rw [ValueIdx.mulf_apply, h0, EReal.coe_mul]),
    sum_last3 _ (fun d => X.k b m d * X.k b m d) _ _ b m (fun d => by
      rw [ValueIdx.mulf_apply, h1, EReal.coe_mul]),
    dot_dist _ _ (fun d => X.u b n d) (fun d => X.k b m d) b n m (fun d => h0 b n d) (fun d => h1 b m d),
    constant_apply, word_two, ← EReal.coe_mul, ← EReal.coe_add, ← EReal.coe_sub, ← EReal.coe_neg]
  rfl

/-- The reciprocals. -/
theorem recip_apply (X : Data) (t : FVec Ideal S16x4096x3 .f32) (b : Fin 16) (n : Fin 4096) (j : Fin 3)
    (ht : t (ix3 b n j) = ((-(dist X b n (near X b n j)) : ℝ) : EReal)) :
    Host.divf (broadcastInDim S16x4096x3 ![] bcast_S_S16x4096x3 (constant (F := Ideal) S_ .f32 0x3F800000#32)) (addf (Host.negf t) (broadcastInDim S16x4096x3 ![] bcast_S_S16x4096x3 (constant (F := Ideal) S_ .f32 0x322BCC77#32)))
      (ix3 b n j) = (recip X b n j : EReal) := by
  rw [hdiv_apply, ValueIdx.addf_apply, hneg_apply, broadcastInDim_scalar_apply, broadcastInDim_scalar_apply, ht,
    constant_apply, constant_apply, word_one, word_epsD, ← EReal.coe_neg, neg_neg, ← EReal.coe_add]
  exact div_real (shifted_pos X b n _).ne'

/-- The weights. -/
theorem weight_apply (X : Data) (r : FVec Ideal S16x4096x3 .f32) (b : Fin 16) (n : Fin 4096)
    (hr : ∀ j, r (ix3 b n j) = (recip X b n j : EReal)) (j : Fin 3) :
    Host.divf r (broadcastInDim S16x4096x3 ![0, 1, 2] bcast_S16x4096x1_S16x4096x3_0_1_2
      (broadcastInDim S16x4096x1 ![0, 1] bcast_S16x4096_S16x4096x1_0_1 (Host.reduceAdd r
        (constant (F := Ideal) S_ .f32 0x00000000#32) reducesTo_S16x4096x3_S16x4096_d2 h_S_))) (ix3 b n j) = (wt X b n j : EReal) := by
  rw [hdiv_apply, bc_three, sum_last3 _ (fun j => recip X b n j) _ _ b n hr, hr]
  exact div_real (norm_pos X b n).ne'

theorem not_negative (m : Fin 1024) : IntOp.cmpi .slt (BitVec.ofNat 32 m.val) 0#32 = 0#1 := by
  have h := m.isLt
  have e : BitVec.slt (BitVec.ofNat 32 m.val) 0#32 = false := by
    rw [BitVec.slt_eq_decide, BitVec.toInt_eq_toNat_of_lt (by rw [BitVec.toNat_ofNat]; omega)]
    exact decide_eq_false (not_lt.mpr (Int.natCast_nonneg _))
  show BitVec.ofBool (BitVec.slt (BitVec.ofNat 32 m.val) 0#32) = 0#1
  rw [e]; rfl

/-- The positions that the gather reads. -/
theorem start_apply (t : IVec S16x4096x3 32) (b : Fin 16) (n : Fin 4096) (j : Fin 3) (m : Fin 1024)
    (ht : t (ix3 b n j) = BitVec.ofNat 32 m.val) :
    select (cmpi .slt t (broadcastInDim S16x4096x3 ![] bcast_S_S16x4096x3 (constantI S_ 32 0#32)))
      (addi t (broadcastInDim S16x4096x3 ![] bcast_S_S16x4096x3 (constantI S_ 32 1024#32))) t (ix3 b n j)
      = BitVec.ofNat 32 m.val := by
  rw [select_no _ _ _ _ ?_, ht]
  show IntOp.cmpi .slt (t (ix3 b n j)) (broadcastInDim S16x4096x3 ![] bcast_S_S16x4096x3 (constantI S_ 32 0#32) (ix3 b n j)) = 0#1
  rw [ht, broadcastInDim_scalar_apply]
  exact not_negative m

/-! ## The interpolated features and the first layer -/

/-- The interpolated features. -/
theorem interp_apply (X : Data) (a3 : FVec Ideal S16x512x1024 .f32) (w : FVec Ideal S16x4096x3 .f32) (t : IVec S16x4096x3 32)
    (h3 : ∀ b c m, a3 (ix3 b c m) = (X.kf b c m : EReal)) (hw : ∀ b n j, w (ix3 b n j) = (wt X b n j : EReal))
    (ht : ∀ b n j, t (ix3 b n j) = BitVec.ofNat 32 (near X b n j).val) (b : Fin 16) (c : Fin 512) (n : Fin 4096) :
    Host.reduceAdd (mulf (Host.gather gather_S16x512x1024_S16x4096x3x1_S16x512x4096x3_1_2_0_0_2_3_15121 a3
        (broadcastInDim S16x4096x3x1 ![0, 1, 2] bcast_S16x4096x3_S16x4096x3x1_0_1_2 t))
      (broadcastInDim S16x512x4096x3 ![0, 1, 2, 3] bcast_S16x1x4096x3_S16x512x4096x3_0_1_2_3
        (broadcastInDim S16x1x4096x3 ![0, 2, 3] bcast_S16x4096x3_S16x1x4096x3_0_2_3 w)))
      (constant (F := Ideal) S_ .f32 0x00000000#32) reducesTo_S16x512x4096x3_S16x512x4096_d3 h_S_ (ix3 b c n)
      = (interp X b c n : EReal) :=
  sum_last4 _ (fun j => X.kf b c (near X b n j) * wt X b n j) _ _ b c n fun j => by
    rw [ValueIdx.mulf_apply, bc_weight, hw,
      gather_apply _ _ b c n j (near X b n j) ((bc_start t b n j).trans (ht b n j)), h3, EReal.coe_mul]

/-- The features side by side, interpolated ones first. -/
def both (X : Data) (b : Fin 16) (n : Fin 4096) (c : Fin 768) : ℝ :=
  if h : c.val < 512 then interp X b ⟨c.val, h⟩ n else X.uf b ⟨c.val - 512, by omega⟩ n

theorem both_apply (X : Data) (p : FVec Ideal S16x512x4096 .f32) (q : FVec Ideal S16x256x4096 .f32)
    (hp : ∀ b c n, p (ix3 b c n) = (interp X b c n : EReal)) (hq : ∀ b c n, q (ix3 b c n) = (X.uf b c n : EReal))
    (b : Fin 16) (c : Fin 768) (n : Fin 4096) :
    concatenate S16x768x4096 1 [⟨S16x512x4096, p⟩, ⟨S16x256x4096, q⟩] concatenates_S16x512x4096_S16x256x4096_S16x768x4096_d1
      (ix3 b c n) = (both X b n c : EReal) := by
  unfold both
  by_cases h : c.val < 512
  · rw [dif_pos h, ← hp]
    exact concatenate_pair_apply_left _ p q _ (ix3 b c n) rfl (ix3 b (⟨c.val, h⟩ : Fin 512) n) fun a => by fin_cases a <;> rfl
  · rw [dif_neg h, ← hq]
    refine concatenate_pair_apply_right _ p q _ (ix3 b c n) rfl rfl (ix3 b (⟨c.val - 512, by omega⟩ : Fin 256) n)
      (fun a ha => ?_) ?_
    · fin_cases a
      · rfl
      · exact absurd rfl ha
      · rfl
    · show c.val - 512 + 512 = c.val
      omega

/-- The product over all features is the two products' sum. -/
theorem both_sum (X : Data) (b : Fin 16) (n : Fin 4096) (o : Fin 256) :
    (∑ c, both X b n c * X.W1 o c)
      = (∑ c, X.W1 o (colA c) * interp X b c n) + ∑ c, X.W1 o (colB c) * X.uf b c n := by
  refine (Fin.sum_univ_add (a := 512) (b := 256) fun c : Fin (512 + 256) => both X b n c * X.W1 o c).trans ?_
  congr 1
  · refine Finset.sum_congr rfl fun c _ => ?_
    have e : both X b n (Fin.castAdd 256 c) = interp X b c n := dif_pos c.isLt
    rw [e, mul_comm]; rfl
  · refine Finset.sum_congr rfl fun c _ => ?_
    have e : both X b n (Fin.natAdd 512 c) = X.uf b c n := by
      unfold both
      rw [dif_neg (by show ¬ 512 + c.val < 512; omega)]
      congr 1
      exact Fin.ext (by show 512 + c.val - 512 = c.val; omega)
    rw [e, mul_comm]; rfl

theorem layer_apply (X : Data) (x : FVec Ideal S16x768x4096 .f32) (a4 : FVec Ideal S256x768 .f32) (a5 : FVec Ideal S256 .f32)
    (hx : ∀ b c n, x (ix3 b c n) = (both X b n c : EReal)) (h4 : ∀ o c, a4 (ix2 o c) = (X.W1 o c : EReal))
    (h5 : ∀ o, a5 (ix1 o) = (X.b1 o : EReal)) (b : Fin 16) (o : Fin 256) (n : Fin 4096) :
    addf (transpose S16x256x4096 [0, 2, 1] (Host.dotGeneral dot_S16x768x4096_S256x768_S16x4096x256_1_1_02_0_n_n none x a4) transposes_S16x4096x256_S16x256x4096_0_2_1)
      (broadcastInDim S16x256x4096 ![0, 1, 2] bcast_S1x256x1_S16x256x4096_0_1_2 (broadcastInDim S1x256x1 ![1] bcast_S256_S1x256x1_1 a5))
      (ix3 b o n) = (y1 X b o n : EReal) := by
  rw [ValueIdx.addf_apply, bc_par, transpose_ix3_021_apply, h5,
    dot_first x a4 (fun c => both X b n c) (fun c => X.W1 o c) b n o (fun c => hx b c n) (h4 o), both_sum, ← EReal.coe_add]
  rfl

section
variable {V : Valuation τ sig (Elt Ideal)} {X : Data} (H : Args V X)
include H

theorem v13_apply (b : Fin 16) (n : Fin 4096) (m : Fin 1024) :
    (res_main_v13 V : FVec Ideal S16x4096x1024 .f32) (ix3 b n m) = ((-(dist X b n m) : ℝ) : EReal) := by
  unfold res_main_v13
  exact neg_dist_apply X _ _ H.u H.k b n m

theorem indices_apply (b : Fin 16) (n : Fin 4096) (j : Fin 3) :
    (res_main_indices V : IVec S16x4096x3 32) (ix3 b n j) = BitVec.ofNat 32 (near X b n j).val :=
  (top_apply _ (dist X b n) b n (v13_apply H b n) _ j).2

theorem v18_apply (b : Fin 16) (n : Fin 4096) (j : Fin 3) :
    (res_main_v18 V : FVec Ideal S16x4096x3 .f32) (ix3 b n j) = (recip X b n j : EReal) := by
  unfold res_main_v18
  exact recip_apply X _ b n j (top_apply _ (dist X b n) b n (v13_apply H b n) _ j).1

/-- The first layer's values. -/
theorem v39_apply (b : Fin 16) (o : Fin 256) (n : Fin 4096) :
    (res_main_v39 V : FVec Ideal S16x256x4096 .f32) (ix3 b o n) = (y1 X b o n : EReal) := by
  unfold res_main_v39
  refine layer_apply X _ _ _ (both_apply X _ _ (interp_apply X _ _ _ H.kf (fun b n j => ?_) fun b n j => ?_) H.uf) H.W1 H.b1 b o n
  · exact weight_apply X _ b n (v18_apply H b n) j
  · exact start_apply _ b n j _ (indices_apply H b n j)

end

end Cert.ReferenceIdeal.Hand

end
-- ==== Proof.Value.RefSecond.lean ====
/- The reference's normalisation of a layer, its second layer, and its result, over the reals. -/
module

public import proofs.«01_k».proof.Proof.Value.RefFirst
public import Idealize.ShloMosaic.Lib.KernelVsHost

@[expose] public section

set_option maxRecDepth 16384

noncomputable section

namespace Cert.ReferenceIdeal.Hand

open Cert.ReferenceIdeal Cert.ReferenceIdeal.Gen Cert.ReferenceIdeal.Value Cert.Spec
open Idealize.ShloMosaic
open Idealize.ShloMosaic.ValueIdx Idealize.ShloMosaic.TcCoe

/-! ## The normalisation of a layer -/

/-- A channel's mean. -/
abbrev chanMean (x : FVec Ideal S16x256x4096 .f32) : FVec Ideal S1x256x1 .f32 :=
  Host.divf (broadcastInDim S1x256x1 ![1] bcast_S256_S1x256x1_1 (Host.reduceAdd x (constant S_ .f32 0x00000000#32) reducesTo_S16x256x4096_S256_d0_2 h_S_))
    (broadcastInDim S1x256x1 ![] bcast_S_S1x256x1 (constant S_ .f32 0x47800000#32))

/-- A layer less its channels' means. -/
abbrev centred (x : FVec Ideal S16x256x4096 .f32) : FVec Ideal S16x256x4096 .f32 :=
  subf x (broadcastInDim S16x256x4096 ![0, 1, 2] bcast_S1x256x1_S16x256x4096_0_1_2 (chanMean x))

/-- A channel's variance from the centred values `y` and the count `k`; without a positive count it is undefined. -/
abbrev chanVar (y : FVec Ideal S16x256x4096 .f32) (k : FVec Ideal S_ .f32) : FVec Ideal S1x256x1 .f32 :=
  select (broadcastInDim S1x256x1 ![] bcast_S_S1x256x1 (cmpf .ogt k (constant S_ .f32 0x00000000#32)))
    (Host.divf (broadcastInDim S1x256x1 ![1] bcast_S256_S1x256x1_1 (Host.reduceAdd (mulf y y) (constant S_ .f32 0x00000000#32) reducesTo_S16x256x4096_S256_d0_2 h_S_))
      (broadcastInDim S1x256x1 ![] bcast_S_S1x256x1 k))
    (broadcastInDim S1x256x1 ![] bcast_S_S1x256x1 (id (constant S_ .f32 0x7FC00000#32)))

/-- The layer normalised. -/
abbrev normed (x y : FVec Ideal S16x256x4096 .f32) (k : FVec Ideal S_ .f32) : FVec Ideal S16x256x4096 .f32 :=
  Host.divf (centred x) (broadcastInDim S16x256x4096 ![0, 1, 2] bcast_S1x256x1_S16x256x4096_0_1_2
    (Host.sqrt (addf (chanVar y k) (broadcastInDim S1x256x1 ![] bcast_S_S1x256x1 (constant S_ .f32 0x3727C5AC#32)))))

/-- The normalised layer scaled by `g`, shifted by `s` and clipped at zero. -/
abbrev clipped (x y : FVec Ideal S16x256x4096 .f32) (k : FVec Ideal S_ .f32) (g s : FVec Ideal S256 .f32) : FVec Ideal S16x256x4096 .f32 :=
  maximumf (addf (mulf (broadcastInDim S16x256x4096 ![0, 1, 2] bcast_S1x256x1_S16x256x4096_0_1_2 (broadcastInDim S1x256x1 ![1] bcast_S256_S1x256x1_1 g)) (normed x y k))
    (broadcastInDim S16x256x4096 ![0, 1, 2] bcast_S1x256x1_S16x256x4096_0_1_2 (broadcastInDim S1x256x1 ![1] bcast_S256_S1x256x1_1 s)))
    (broadcastInDim S16x256x4096 ![] bcast_S_S16x256x4096 (constant S_ .f32 0x00000000#32))

section
variable {x : FVec Ideal S16x256x4096 .f32} {f : Fin 16 → Fin 256 → Fin 4096 → ℝ}
  (hx : ∀ b o n, x (ix3 b o n) = (f b o n : EReal))
include hx

theorem chanMean_apply (o : Fin 256) :
    chanMean x (ix3 (0 : Fin 1) o (0 : Fin 1)) = (mean (fun b n => f b o n) : EReal) := by
  unfold chanMean
  rw [hdiv_apply, bc_row, broadcastInDim_scalar_apply, constant_apply, word_65536,
    sum_mid x f _ _ o (fun b n => hx b o n)]
  exact div_real (by norm_num)

theorem centred_apply (b : Fin 16) (o : Fin 256) (n : Fin 4096) :
    centred x (ix3 b o n) = ((f b o n - mean fun b n => f b o n : ℝ) : EReal) := by
  unfold centred
  rw [ValueIdx.subf_apply, bc_chan, chanMean_apply hx, hx, ← EReal.coe_sub]

/-- The count of a channel's values, as the reference computes it. -/
theorem chanVar_apply {y : FVec Ideal S16x256x4096 .f32} {k : FVec Ideal S_ .f32}
    (hy : ∀ b o n, y (ix3 b o n) = ((f b o n - mean fun b n => f b o n : ℝ) : EReal)) (hk : k ix0 = ((65536 : ℝ) : EReal))
    (o : Fin 256) : chanVar y k (ix3 (0 : Fin 1) o (0 : Fin 1)) = (var (fun b n => f b o n) : EReal) := by
  have hp : (0 : EReal) < ((65536 : ℝ) : EReal) := by
    rw [← EReal.coe_zero, EReal.coe_lt_coe_iff]; norm_num
  have e : (cmpf (F := Ideal) .ogt k (constant S_ .f32 0x00000000#32)) ix0 = 1#1 := by
    show BitVec.ofBool (decide (Ideal.ofBits .f32 0x00000000#32 < k ix0)) = 1#1
    rw [hk, word_zero, decide_eq_true hp]; rfl
  unfold chanVar
  rw [select_yes _ _ _ _ ((broadcastInDim_scalar_apply _ _ _).trans e), hdiv_apply, bc_row, broadcastInDim_scalar_apply, hk,
    sum_mid (mulf y y) (fun b o n => (f b o n - mean fun b n => f b o n) * (f b o n - mean fun b n => f b o n)) _ _ o
      (fun b n => by rw [ValueIdx.mulf_apply, hy, ← EReal.coe_mul])]
  exact div_real (by norm_num)

theorem normed_apply {y : FVec Ideal S16x256x4096 .f32} {k : FVec Ideal S_ .f32}
    (hy : ∀ b o n, y (ix3 b o n) = ((f b o n - mean fun b n => f b o n : ℝ) : EReal)) (hk : k ix0 = ((65536 : ℝ) : EReal))
    (b : Fin 16) (o : Fin 256) (n : Fin 4096) :
    normed x y k (ix3 b o n) = (((f b o n - mean fun b n => f b o n) / dev fun b n => f b o n : ℝ) : EReal) := by
  unfold normed
  rw [hdiv_apply, centred_apply hx, bc_chan, hsqrt_apply, ValueIdx.addf_apply, chanVar_apply hx hy hk,
    broadcastInDim_scalar_apply, constant_apply, word_epsB, ← EReal.coe_add, sqrt_real (var_eps_pos _)]
  exact div_real (dev_pos _).ne'

theorem clipped_apply {y : FVec Ideal S16x256x4096 .f32} {k : FVec Ideal S_ .f32} {g s : FVec Ideal S256 .f32}
    {gr : Fin 256 → ℝ} {sr : Fin 256 → EReal}
    (hy : ∀ b o n, y (ix3 b o n) = ((f b o n - mean fun b n => f b o n : ℝ) : EReal)) (hk : k ix0 = ((65536 : ℝ) : EReal))
    (hg : ∀ o, g (ix1 o) = (gr o : EReal)) (hs : ∀ o, s (ix1 o) = sr o) (b : Fin 16) (o : Fin 256) (n : Fin 4096) :
    clipped x y k g s (ix3 b o n)
      = max (((gr o * ((f b o n - mean fun b n => f b o n) / dev fun b n => f b o n) : ℝ) : EReal) + sr o) 0 := by
  unfold clipped
  rw [ValueIdx.maximumf_apply, ValueIdx.addf_apply, ValueIdx.mulf_apply, bc_par, bc_par, normed_apply hx hy hk,
    broadcastInDim_scalar_apply, constant_apply, word_zero, hg, hs, ← EReal.coe_mul]

end

/-- The count of a channel's values. -/
theorem count_apply : (subf (constant S_ .f32 0x47800000#32) (sitofp .f32 (constantI S_ 32 0#32)) : FVec Ideal S_ .f32) ix0
    = ((65536 : ℝ) : EReal) := by
  show Ideal.ofBits .f32 0x47800000#32 - (Scalar.sitofp .f32 0#32 : Ideal .f32) = _
  rw [sitofp_zero, word_65536, sub_zero]

/-- The second layer's products and shift. -/
theorem layer2_apply (X : Data) (x : FVec Ideal S16x256x4096 .f32) (a8 : FVec Ideal S256x256 .f32) (a9 : FVec Ideal S256 .f32)
    (hx : ∀ b c n, x (ix3 b c n) = (h X b c n : EReal)) (h8 : ∀ o c, a8 (ix2 o c) = (X.W2 o c : EReal))
    (h9 : ∀ o, a9 (ix1 o) = (X.b2 o : EReal)) (b : Fin 16) (o : Fin 256) (n : Fin 4096) :
    addf (transpose S16x256x4096 [0, 2, 1] (Host.dotGeneral dot_S16x256x4096_S256x256_S16x4096x256_1_1_02_0_n_n none x a8) transposes_S16x4096x256_S16x256x4096_0_2_1)
      (broadcastInDim S16x256x4096 ![0, 1, 2] bcast_S1x256x1_S16x256x4096_0_1_2 (broadcastInDim S1x256x1 ![1] bcast_S256_S1x256x1_1 a9))
      (ix3 b o n) = ((z X b o n + X.b2 o : ℝ) : EReal) := by
  rw [ValueIdx.addf_apply, bc_par, transpose_ix3_021_apply, h9,
    dot_second x a8 (fun c => h X b c n) (fun c => X.W2 o c) b n o (fun c => hx b c n) (h8 o), ← EReal.coe_add]
  unfold z
  rw [Finset.sum_congr rfl fun c _ => mul_comm (h X b c n) (X.W2 o c)]

section
variable {V : Valuation τ sig (Elt Ideal)} {X : Data} (H : Args V X)
include H

theorem v63_apply (b : Fin 16) (o : Fin 256) (n : Fin 4096) :
    (res_main_v63 V : FVec Ideal S16x256x4096 .f32) (ix3 b o n) = ((z X b o n + X.b2 o : ℝ) : EReal) := by
  unfold res_main_v63
  refine layer2_apply X (clipped (res_main_v39 V) (res_main_call0_v5 V) (res_main_call0_v8 V) _ _) _ _ (fun b c n => ?_) H.W2 H.b2 b o n
  refine (clipped_apply (v39_apply H) (centred_apply (v39_apply H)) count_apply H.g1 H.be1 b c n).trans ?_
  rw [← EReal.coe_add, ← EReal.coe_zero, max_real]
  rfl

/-- The reference's result. -/
theorem result_apply (b : Fin 16) (o : Fin 256) (n : Fin 4096) :
    clipped (res_main_v63 V) (res_main_call2_v5 V) (res_main_call2_v8 V) (V (Proc.devRef .tc main_arg10)) (V (Proc.devRef .tc main_arg11))
      (ix3 b o n) = out X b o n :=
  (clipped_apply (f := fun b o n => z X b o n + X.b2 o) (v63_apply H) (centred_apply (v63_apply H)) count_apply H.g2 H.be2 b o n).trans rfl

end

end Cert.ReferenceIdeal.Hand

end
-- ==== Proof.Algebraic.lean ====
/- The value claim: on finite arguments the idealized kernel and the reference leave the same array.

   Both results are `Spec.out` of the arguments as reals: the kernel's by `Value/Chain.lean`, the reference's by
   `Value/RefSecond.lean`. The reference starts from a memory that agrees with the kernel's on the arguments. -/
module

public import proofs.«01_k».proof.Defs
public import proofs.«01_k».proof.Proof.Finite
public import proofs.«01_k».proof.Proof.Frames
public import proofs.«01_k».proof.Proof.Value.RefSecond

@[expose] public section

set_option maxRecDepth 16384

noncomputable section

namespace Cert.Proof

open Idealize.ShloMosaic Idealize.ShloMosaic.TcCoe Idealize.SL.Sem Idealize.ShloMosaic.StableHlo Cert.Spec

/-- The frame of the idealized kernel where the arguments are finite. -/
theorem frame_ideal_finite : Cert.quiescent_KernelIdeal_pre_finite := fun m g _ =>
  Cert.KernelIdeal.Hand.args_kept (F := Ideal) m g

/-- The frame of the idealized reference where the arguments are finite. -/
theorem frame_reference_finite : Cert.quiescent_ReferenceIdeal_pre_finite := fun m g _ =>
  (θ_run Cert.ReferenceIdeal.defs _ _).mono
    (fun r h => ⟨fun c => (h c).2, sem_eq_zero_of_no_sems (by decide) r.2⟩)
    (Cert.ReferenceIdeal.Value.run (F := Ideal) m g)

/-- The reference's memory. -/
abbrev RefMem : Type :=
  (ℓ : Loc Cert.ReferenceIdeal.nD Cert.ReferenceIdeal.τ Cert.ReferenceIdeal.sig) → Buf (Elt Ideal) ℓ

/-- The two memories agree on the arguments of one device. -/
def Agree (m : Mem) (m' : RefMem) (c : Dev Cert.KernelIdeal.nD) : Prop :=
  m' ((c.tc : Thread Cert.ReferenceIdeal.nD Cert.ReferenceIdeal.τ).loc Cert.ReferenceIdeal.main_arg0) =
    m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) =
    m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) =
    m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) =
    m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) =
    m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) =
    m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) =
    m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) =
    m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) =
    m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) =
    m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) =
    m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) =
    m ((c.tc : Thread Cert.KernelIdeal.nD Cert.KernelIdeal.τ).loc Cert.KernelIdeal.main_arg11)

/-- The reference's arguments are the kernel's reals. -/
theorem ref_args (m : Mem) (m' : RefMem) (c : Dev Cert.KernelIdeal.nD)
    (h : Cert.Pre_KernelIdeal_finite m) (e : Agree m m' c) :
    Cert.ReferenceIdeal.Hand.Args (launchContents m' c) (data m c) where
  u p q r := congrFun (e.1.trans (args_real m h c).u) (ValueIdx.ix3 p q r)
  k p q r := congrFun (e.2.1.trans (args_real m h c).k) (ValueIdx.ix3 p q r)
  uf p q r := congrFun (e.2.2.1.trans (args_real m h c).uf) (ValueIdx.ix3 p q r)
  kf p q r := congrFun (e.2.2.2.1.trans (args_real m h c).kf) (ValueIdx.ix3 p q r)
  W1 p q := congrFun (e.2.2.2.2.1.trans (args_real m h c).W1) (ValueIdx.ix2 p q)
  b1 p := congrFun (e.2.2.2.2.2.1.trans (args_real m h c).b1) (ValueIdx.ix1 p)
  g1 p := congrFun (e.2.2.2.2.2.2.1.trans (args_real m h c).g1) (ValueIdx.ix1 p)
  be1 p := congrFun (e.2.2.2.2.2.2.2.1.trans (args_real m h c).be1) (ValueIdx.ix1 p)
  W2 p q := congrFun (e.2.2.2.2.2.2.2.2.1.trans (args_real m h c).W2) (ValueIdx.ix2 p q)
  b2 p := congrFun (e.2.2.2.2.2.2.2.2.2.1.trans (args_real m h c).b2) (ValueIdx.ix1 p)
  g2 p := congrFun (e.2.2.2.2.2.2.2.2.2.2.1.trans (args_real m h c).g2) (ValueIdx.ix1 p)
  be2 p := congrFun (e.2.2.2.2.2.2.2.2.2.2.2.trans (args_real m h c).be2) (ValueIdx.ix1 p)

/-- The kernel's result and the reference's are one array. -/
theorem value : Cert.algebraic_KernelIdeal_ReferenceIdeal_pre_finite := fun m g m' g' hp hm =>
  ⟨fun c => fun i : Cert.KernelIdeal.S16x256x4096.Idx => out (data m c) (i 0) (i 1) (i 2),
    (θ_run Cert.KernelIdeal.defs _ _).mono
      (fun r h c => ⟨(h c).1.trans (Cert.KernelIdeal.Hand.result_array (args_real m hp c)), (h c).2⟩)
      (Cert.KernelIdeal.Hand.result_kept m g),
    (θ_run Cert.ReferenceIdeal.defs _ _).mono
      (fun r h c => ⟨(h c).1.trans (funext fun i =>
        (congrArg (Cert.ReferenceIdeal.Hand.clipped _ _ _ _ _) (ValueIdx.eq_ix3 i)).trans
          (Cert.ReferenceIdeal.Hand.result_apply (ref_args m m' c hp (hm c)) (i 0) (i 1) (i 2))), (h c).2⟩)
      (Cert.ReferenceIdeal.Value.run (F := Ideal) m' g')⟩

end Cert.Proof

end
-- ==== Proof.lean ====
/- The proof of the claim: the frames and the named constant are theorems of `Proof/Frames.lean`,
   the value claim of `Proof/Algebraic.lean`. -/
module

public import proofs.«01_k».proof.Defs
public import proofs.«01_k».proof.Proof.Frames
public import proofs.«01_k».proof.Proof.Algebraic

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, facts_finite,
    frame_kernel, frame_ideal, frame_ideal_finite, frame_reference, frame_reference_finite, mask_named, value⟩

end Cert.Proof

end
